-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S16x60x768 : Shape := ⟨3, ![16, 60, 768]⟩
abbrev S16x60 : Shape := ⟨2, ![16, 60]⟩
abbrev S16x50x64x768 : Shape := ⟨4, ![16, 50, 64, 768]⟩
abbrev S16x50 : Shape := ⟨2, ![16, 50]⟩
abbrev S16x50x64 : Shape := ⟨3, ![16, 50, 64]⟩
abbrev S16x64 : Shape := ⟨2, ![16, 64]⟩
abbrev S16x64x7 : Shape := ⟨3, ![16, 64, 7]⟩
abbrev S16 : Shape := ⟨1, ![16]⟩
abbrev S7x768 : Shape := ⟨2, ![7, 768]⟩
abbrev S768 : Shape := ⟨1, ![768]⟩
abbrev S100x768 : Shape := ⟨2, ![100, 768]⟩
abbrev S_ : Shape := ⟨0, ![]⟩

class Facts : Prop where
  bcast_S_S16x50 : S_.BroadcastsInDim S16x50 (![] : Fin 0 → Fin S16x50.rank)
  bcast_S_S16x50x64 : S_.BroadcastsInDim S16x50x64 (![] : Fin 0 → Fin S16x50x64.rank)
  bcast_S_S16x64 : S_.BroadcastsInDim S16x64 (![] : Fin 0 → Fin S16x64.rank)

variable [Facts]

def fn {F : FTy → Type} [FloatOps F] (main_arg0 : FVec F S16x60x768 .f32) (main_arg1 : IVec S16x60 1) (main_arg2 : FVec F S16x50x64x768 .f32) (main_arg3 : IVec S16x50 32) (main_arg4 : IVec S16x50 32) (main_arg5 : IVec S16x50x64 32) (main_arg6 : IVec S16x64 32) (main_arg7 : IVec S16x64 32) (main_arg8 : FVec F S16x64x7 .f32) (main_arg9 : IVec S16 32) (main_arg10 : FVec F S7x768 .f32) (main_arg11 : FVec F S768 .f32) (main_arg12 : FVec F S768 .f32) (main_arg13 : FVec F S768 .f32) (main_arg14 : FVec F S100x768 .f32) : IVec S16x50 1 × IVec S16x50x64 1 × IVec S16x64 1 :=
  let main_c : IVec S_ 32 := constantI S_ 32 0#32
  let main_v0 : IVec S16x50 32 := broadcastInDim S16x50 ![] bcast_S_S16x50 main_c
  let main_v1 : IVec S16x50 1 := cmpi .sge main_arg4 main_v0
  let main_c_0 : IVec S_ 32 := constantI S_ 32 50#32
  let main_v2 : IVec S16x50 32 := broadcastInDim S16x50 ![] bcast_S_S16x50 main_c_0
  let main_v3 : IVec S16x50 1 := cmpi .slt main_arg4 main_v2
  let main_v4 : IVec S16x50 1 := andi main_v1 main_v3
  let main_c_1 : IVec S_ 32 := constantI S_ 32 0#32
  let main_v5 : IVec S16x50x64 32 := broadcastInDim S16x50x64 ![] bcast_S_S16x50x64 main_c_1
  let main_v6 : IVec S16x50x64 1 := cmpi .sge main_arg5 main_v5
  let main_c_2 : IVec S_ 32 := constantI S_ 32 64#32
  let main_v7 : IVec S16x50x64 32 := broadcastInDim S16x50x64 ![] bcast_S_S16x50x64 main_c_2
  let main_v8 : IVec S16x50x64 1 := cmpi .slt main_arg5 main_v7
  let main_v9 : IVec S16x50x64 1 := andi main_v6 main_v8
  let main_c_3 : IVec S_ 32 := constantI S_ 32 0#32
  let main_v10 : IVec S16x64 32 := broadcastInDim S16x64 ![] bcast_S_S16x64 main_c_3
  let main_v11 : IVec S16x64 1 := cmpi .sge main_arg7 main_v10
  let main_c_4 : IVec S_ 32 := constantI S_ 32 100#32
  let main_v12 : IVec S16x64 32 := broadcastInDim S16x64 ![] bcast_S_S16x64 main_c_4
  let main_v13 : IVec S16x64 1 := cmpi .slt main_arg7 main_v12
  let main_v14 : IVec S16x64 1 := andi main_v11 main_v13
  (main_v4, main_v9, main_v14)
-- ==== Kernel.lean ====
abbrev S16x60x768 : Shape := ⟨3, ![16, 60, 768]⟩
abbrev S16x60 : Shape := ⟨2, ![16, 60]⟩
abbrev S16x50x64x768 : Shape := ⟨4, ![16, 50, 64, 768]⟩
abbrev S16x50 : Shape := ⟨2, ![16, 50]⟩
abbrev S16x50x64 : Shape := ⟨3, ![16, 50, 64]⟩
abbrev S16x64 : Shape := ⟨2, ![16, 64]⟩
abbrev S16x64x7 : Shape := ⟨3, ![16, 64, 7]⟩
abbrev S16 : Shape := ⟨1, ![16]⟩
abbrev S7x768 : Shape := ⟨2, ![7, 768]⟩
abbrev S768 : Shape := ⟨1, ![768]⟩
abbrev S100x768 : Shape := ⟨2, ![100, 768]⟩
abbrev S51200x768 : Shape := ⟨2, ![51200, 768]⟩
abbrev S_ : Shape := ⟨0, ![]⟩
abbrev S64 : Shape := ⟨1, ![64]⟩
abbrev S1x1x64 : Shape := ⟨3, ![1, 1, 64]⟩
abbrev S16x50x1 : Shape := ⟨3, ![16, 50, 1]⟩
abbrev S51200x1 : Shape := ⟨2, ![51200, 1]⟩
abbrev S1024x1 : Shape := ⟨2, ![1024, 1]⟩
abbrev S16x64x8 : Shape := ⟨3, ![16, 64, 8]⟩
abbrev S1024x8 : Shape := ⟨2, ![1024, 8]⟩
abbrev S8x768 : Shape := ⟨2, ![8, 768]⟩
abbrev S1x768 : Shape := ⟨2, ![1, 768]⟩
abbrev S1024x768 : Shape := ⟨2, ![1024, 768]⟩
abbrev S16x64x768 : Shape := ⟨3, ![16, 64, 768]⟩
abbrev S640x768 : Shape := ⟨2, ![640, 768]⟩
abbrev S640x1 : Shape := ⟨2, ![640, 1]⟩
abbrev S64x768 : Shape := ⟨2, ![64, 768]⟩
abbrev S1x64 : Shape := ⟨2, ![1, 64]⟩
abbrev S640x64 : Shape := ⟨2, ![640, 64]⟩
abbrev S10x64x768 : Shape := ⟨3, ![10, 64, 768]⟩
abbrev S10x768 : Shape := ⟨2, ![10, 768]⟩
abbrev S64x1 : Shape := ⟨2, ![64, 1]⟩
abbrev S64x64 : Shape := ⟨2, ![64, 64]⟩
abbrev S64x10 : Shape := ⟨2, ![64, 10]⟩
abbrev S64x100 : Shape := ⟨2, ![64, 100]⟩
abbrev S64x8 : Shape := ⟨2, ![64, 8]⟩

abbrev nBuf : Space → Nat
  | .hbm => 49
  | .vmem => 25
  | .smem => 0
  | _ => 0

abbrev bufTy : (tb : Table) → Fin (tcTables nBuf tb) → BufTy
  | .hbm, ⟨0, _⟩ => ⟨S16x60x768, .f32⟩
  | .hbm, ⟨1, _⟩ => ⟨S16x60, .i1⟩
  | .hbm, ⟨2, _⟩ => ⟨S16x50x64x768, .f32⟩
  | .hbm, ⟨3, _⟩ => ⟨S16x50, .i32⟩
  | .hbm, ⟨4, _⟩ => ⟨S16x50, .i32⟩
  | .hbm, ⟨5, _⟩ => ⟨S16x50x64, .i32⟩
  | .hbm, ⟨6, _⟩ => ⟨S16x64, .i32⟩
  | .hbm, ⟨7, _⟩ => ⟨S16x64, .i32⟩
  | .hbm, ⟨8, _⟩ => ⟨S16x64x7, .f32⟩
  | .hbm, ⟨9, _⟩ => ⟨S16, .i32⟩
  | .hbm, ⟨10, _⟩ => ⟨S7x768, .f32⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S100x768, .f32⟩
  | .hbm, ⟨15, _⟩ => ⟨S51200x768, .f32⟩
  | .hbm, ⟨16, _⟩ => ⟨S_, .i32⟩
  | .hbm, ⟨17, _⟩ => ⟨S16x50, .i32⟩
  | .hbm, ⟨18, _⟩ => ⟨S16x50, .i32⟩
  | .hbm, ⟨19, _⟩ => ⟨S64, .i32⟩
  | .hbm, ⟨20, _⟩ => ⟨S1x1x64, .i32⟩
  | .hbm, ⟨21, _⟩ => ⟨S16x50x1, .i32⟩
  | .hbm, ⟨22, _⟩ => ⟨S16x50x64, .i32⟩
  | .hbm, ⟨23, _⟩ => ⟨S16x50x64, .i32⟩
  | .hbm, ⟨24, _⟩ => ⟨S16x50x64, .i1⟩
  | .hbm, ⟨25, _⟩ => ⟨S16x50x64, .f32⟩
  | .hbm, ⟨26, _⟩ => ⟨S51200x1, .f32⟩
  | .hbm, ⟨27, _⟩ => ⟨S51200x1, .i32⟩
  | .hbm, ⟨28, _⟩ => ⟨S_, .i32⟩
  | .hbm, ⟨29, _⟩ => ⟨S_, .i32⟩
  | .hbm, ⟨30, _⟩ => ⟨S16x64, .i32⟩
  | .hbm, ⟨31, _⟩ => ⟨S1024x1, .i32⟩
  | .hbm, ⟨32, _⟩ => ⟨S_, .i32⟩
  | .hbm, ⟨33, _⟩ => ⟨S_, .i32⟩
  | .hbm, ⟨34, _⟩ => ⟨S16x64, .i32⟩
  | .hbm, ⟨35, _⟩ => ⟨S1024x1, .i32⟩
  | .hbm, ⟨36, _⟩ => ⟨S1024x1, .i32⟩
  | .hbm, ⟨37, _⟩ => ⟨S_, .i32⟩
  | .hbm, ⟨38, _⟩ => ⟨S_, .f32⟩
  | .hbm, ⟨39, _⟩ => ⟨S16x64x8, .f32⟩
  | .hbm, ⟨40, _⟩ => ⟨S1024x8, .f32⟩
  | .hbm, ⟨41, _⟩ => ⟨S_, .i32⟩
  | .hbm, ⟨42, _⟩ => ⟨S_, .f32⟩
  | .hbm, ⟨43, _⟩ => ⟨S8x768, .f32⟩
  | .hbm, ⟨44, _⟩ => ⟨S1x768, .f32⟩
  | .hbm, ⟨45, _⟩ => ⟨S1x768, .f32⟩
  | .hbm, ⟨46, _⟩ => ⟨S1x768, .f32⟩
  | .hbm, ⟨47, _⟩ => ⟨S1024x768, .f32⟩
  | .hbm, ⟨48, _⟩ => ⟨S16x64x768, .f32⟩
  | .local _ .vmem, ⟨0, _⟩ => ⟨S1024x1, .i32⟩
  | .local _ .vmem, ⟨1, _⟩ => ⟨S1024x1, .i32⟩
  | .local _ .vmem, ⟨2, _⟩ => ⟨S1024x1, .i32⟩
  | .local _ .vmem, ⟨3, _⟩ => ⟨S1024x8, .f32⟩
  | .local _ .vmem, ⟨4, _⟩ => ⟨S8x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S100x768, .f32⟩
  | .local _ .vmem, ⟨9, _⟩ => ⟨S1024x768, .f32⟩
  | .local _ .vmem, ⟨10, _⟩ => ⟨S640x768, .f32⟩
  | .local _ .vmem, ⟨11, _⟩ => ⟨S640x768, .f32⟩
  | .local _ .vmem, ⟨12, _⟩ => ⟨S640x768, .f32⟩
  | .local _ .vmem, ⟨13, _⟩ => ⟨S640x768, .f32⟩
  | .local _ .vmem, ⟨14, _⟩ => ⟨S640x1, .f32⟩
  | .local _ .vmem, ⟨15, _⟩ => ⟨S640x1, .f32⟩
  | .local _ .vmem, ⟨16, _⟩ => ⟨S640x1, .f32⟩
  | .local _ .vmem, ⟨17, _⟩ => ⟨S640x1, .f32⟩
  | .local _ .vmem, ⟨18, _⟩ => ⟨S640x1, .i32⟩
  | .local _ .vmem, ⟨19, _⟩ => ⟨S640x1, .i32⟩
  | .local _ .vmem, ⟨20, _⟩ => ⟨S640x1, .i32⟩
  | .local _ .vmem, ⟨21, _⟩ => ⟨S640x1, .i32⟩
  | .local _ .vmem, ⟨22, _⟩ => ⟨S64x768, .f32⟩
  | .local _ .vmem, ⟨23, _⟩ => ⟨S64x768, .f32⟩
  | .local _ .vmem, ⟨24, _⟩ => ⟨S1x64, .f32⟩
  | _, _ => ⟨S16x60x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_call0_v0 : Ref sig .tc := ⟨.hbm, 29, rfl⟩
abbrev main_call0_v12 : Ref sig .tc := ⟨.hbm, 30, rfl⟩
abbrev main_call0_v13 : Ref sig .tc := ⟨.hbm, 31, rfl⟩
abbrev main_call0_c_1 : Ref sig .tc := ⟨.hbm, 32, rfl⟩
abbrev main_call0_call1_v0 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_call0_c_2 : Ref sig .tc := ⟨.hbm, 37, rfl⟩
abbrev main_call0_call2_v0 : Ref sig .tc := ⟨.hbm, 38, rfl⟩
abbrev main_call0_v17 : Ref sig .tc := ⟨.hbm, 39, rfl⟩
abbrev main_call0_v18 : Ref sig .tc := ⟨.hbm, 40, rfl⟩
abbrev main_call0_c_3 : Ref sig .tc := ⟨.hbm, 41, rfl⟩
abbrev main_call0_call3_v0 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_call0_v22 : Ref sig .tc := ⟨.hbm, 46, rfl⟩
abbrev main_call0_v23 : Ref sig .tc := ⟨.hbm, 47, rfl⟩
abbrev main_v0 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_scratch12 : Ref sig .tc := ⟨.vmem, 22, rfl⟩
abbrev cc0_scratch13 : Ref sig .tc := ⟨.vmem, 23, rfl⟩
abbrev cc0_scratch14 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32_20 : BitVec 32 := 0#32
  let c20_i32 : BitVec 32 := 20#32
  let v12 : BitVec 32 := Scalar.addi c0_i32_20 c20_i32
  let c1_i32 : BitVec 32 := 1#32
  ⟨c0_i32_20, v12, c1_i32⟩
def k0_off1 (k0_t1 : Fin k0_t1_loop.trips) (c0_i32_22 : BitVec 32) : Fin 2 → Nat :=
  let c0_i32_20 : BitVec 32 := 0#32
  let c1_i32 : BitVec 32 := 1#32
  let arg40 : BitVec 32 := Scf.iv c0_i32_20 c1_i32 k0_t1
  let c4_i32 : BitVec 32 := 4#32
  let v13 : BitVec 32 := Scalar.muli arg40 c4_i32
  let v14 : BitVec 32 := Scalar.addi v13 c0_i32_22
  let c640_i32_23 : BitVec 32 := 640#32
  let v15 : BitVec 32 := Scalar.muli v14 c640_i32_23
  let c0_i32_24 : BitVec 32 := 0#32
  ![v15.toNat, 0]
def k0_off2 (k0_t1 : Fin k0_t1_loop.trips) (c0_i32_22 : BitVec 32) : Fin 2 → Nat :=
  let c0_i32_20 : BitVec 32 := 0#32
  let c1_i32 : BitVec 32 := 1#32
  let arg40 : BitVec 32 := Scf.iv c0_i32_20 c1_i32 k0_t1
  let c4_i32 : BitVec 32 := 4#32
  let v13 : BitVec 32 := Scalar.muli arg40 c4_i32
  let v14 : BitVec 32 := Scalar.addi v13 c0_i32_22
  let c640_i32_25 : BitVec 32 := 640#32
  let v17 : BitVec 32 := Scalar.muli v14 c640_i32_25
  let c0_i32_26 : BitVec 32 := 0#32
  ![v17.toNat, 0]
def k0_off3 (k0_t1 : Fin k0_t1_loop.trips) (c0_i32_22 : BitVec 32) : Fin 2 → Nat :=
  let c0_i32_20 : BitVec 32 := 0#32
  let c1_i32 : BitVec 32 := 1#32
  let arg40 : BitVec 32 := Scf.iv c0_i32_20 c1_i32 k0_t1
  let c4_i32 : BitVec 32 := 4#32
  let v13 : BitVec 32 := Scalar.muli arg40 c4_i32
  let v14 : BitVec 32 := Scalar.addi v13 c0_i32_22
  let c0_i32_29 : BitVec 32 := 0#32
  let v22 : BitVec 1 := Scalar.cmpi .sgt v14 c0_i32_29
  let v23 : BitVec 32 := Scalar.extui v22
  let c0_i32_30 : BitVec 32 := 0#32
  let v24 : BitVec 1 := Scalar.cmpi .slt v14 c0_i32_30
  let v25 : BitVec 32 := Scalar.extui v24
  let v26 : BitVec 32 := Scalar.subi v23 v25
  let c5_i32 : BitVec 32 := 5#32
  let c0_i32_31 : BitVec 32 := 0#32
  let v27 : BitVec 1 := Scalar.cmpi .sgt c5_i32 c0_i32_31
  let v28 : BitVec 32 := Scalar.extui v27
  let c0_i32_32 : BitVec 32 := 0#32
  let v29 : BitVec 1 := Scalar.cmpi .slt c5_i32 c0_i32_32
  let v30 : BitVec 32 := Scalar.extui v29
  let v31 : BitVec 32 := Scalar.subi v28 v30
  let v32 : BitVec 1 := Scalar.cmpi .ne v26 v31
  let v33 : BitVec 32 := Scalar.remsi v14 c5_i32
  let c0_i32_33 : BitVec 32 := 0#32
  let v34 : BitVec 1 := Scalar.cmpi .ne v33 c0_i32_33
  let v35 : BitVec 1 := Scalar.andi v32 v34
  let v21 : BitVec 32 := Scalar.divsi v14 c5_i32
  let c1_i32_34 : BitVec 32 := 1#32
  let v36 : BitVec 32 := Scalar.subi v21 c1_i32_34
  let v37 : BitVec 32 := Scalar.select v35 v36 v21
  let c64_i32 : BitVec 32 := 64#32
  let v65 : BitVec 32 := Scalar.muli v37 c64_i32
  let v66 : Index := Scalar.indexCast v65
  let c0_49 : Index := 0#32
  ![v66.toNat, 0]
def k0_cond3 (k0_t1 : Fin k0_t1_loop.trips) : BitVec 1 :=
  let c0_i32_20 : BitVec 32 := 0#32
  let c1_i32 : BitVec 32 := 1#32
  let arg40 : BitVec 32 := Scf.iv c0_i32_20 c1_i32 k0_t1
  let c4_i32 : BitVec 32 := 4#32
  let v13 : BitVec 32 := Scalar.muli arg40 c4_i32
  let c0_i32_22 : BitVec 32 := 0#32
  let v14 : BitVec 32 := Scalar.addi v13 c0_i32_22
  let c5_i32_35 : BitVec 32 := 5#32
  let c0_i32_36 : BitVec 32 := 0#32
  let v38 : BitVec 1 := Scalar.cmpi .eq c5_i32_35 c0_i32_36
  let c1_i32_37 : BitVec 32 := 1#32
  let v39 : BitVec 32 := Scalar.select v38 c1_i32_37 c5_i32_35
  let v40 : BitVec 32 := Scalar.remsi v14 v39
  let c0_i32_39 : BitVec 32 := 0#32
  let v42 : BitVec 1 := Scalar.cmpi .slt v40 c0_i32_39
  let c0_i32_40 : BitVec 32 := 0#32
  let v43 : BitVec 1 := Scalar.cmpi .slt v39 c0_i32_40
  let v44 : BitVec 1 := Scalar.xori v42 v43
  let c0_i32_38 : BitVec 32 := 0#32
  let v41 : BitVec 1 := Scalar.cmpi .ne v40 c0_i32_38
  let v45 : BitVec 1 := Scalar.andi v44 v41
  let v46 : BitVec 32 := Scalar.addi v40 v39
  let v47 : BitVec 32 := Scalar.select v45 v46 v40
  let c4_i32_63 : BitVec 32 := 4#32
  let v104 : BitVec 1 := Scalar.cmpi .eq v47 c4_i32_63
  let v105 : BitVec 32 := Scalar.extui v104
  let c0_i32_64 : BitVec 32 := 0#32
  let v106 : BitVec 1 := Scalar.cmpi .ne v105 c0_i32_64
  v106

def k0_off4 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32 : BitVec 32 := 4#32
  let v13 : BitVec 32 := Scalar.muli arg40 c4_i32
  let c0_i32_22 : BitVec 32 := 0#32
  let v14 : BitVec 32 := Scalar.addi v13 c0_i32_22
  let c0_i32_29 : BitVec 32 := 0#32
  let v22 : BitVec 1 := Scalar.cmpi .sgt v14 c0_i32_29
  let v23 : BitVec 32 := Scalar.extui v22
  let c0_i32_30 : BitVec 32 := 0#32
  let v24 : BitVec 1 := Scalar.cmpi .slt v14 c0_i32_30
  let v25 : BitVec 32 := Scalar.extui v24
  let v26 : BitVec 32 := Scalar.subi v23 v25
  let c5_i32 : BitVec 32 := 5#32
  let c0_i32_31 : BitVec 32 := 0#32
  let v27 : BitVec 1 := Scalar.cmpi .sgt c5_i32 c0_i32_31
  let v28 : BitVec 32 := Scalar.extui v27
  let c0_i32_32 : BitVec 32 := 0#32
  let v29 : BitVec 1 := Scalar.cmpi .slt c5_i32 c0_i32_32
  let v30 : BitVec 32 := Scalar.extui v29
  let v31 : BitVec 32 := Scalar.subi v28 v30
  let v32 : BitVec 1 := Scalar.cmpi .ne v26 v31
  let v33 : BitVec 32 := Scalar.remsi v14 c5_i32
  let c0_i32_33 : BitVec 32 := 0#32
  let v34 : BitVec 1 := Scalar.cmpi .ne v33 c0_i32_33
  let v35 : BitVec 1 := Scalar.andi v32 v34
  let v21 : BitVec 32 := Scalar.divsi v14 c5_i32
  let c1_i32_34 : BitVec 32 := 1#32
  let v36 : BitVec 32 := Scalar.subi v21 c1_i32_34
  let v37 : BitVec 32 := Scalar.select v35 v36 v21
  let c64_i32_221 : BitVec 32 := 64#32
  let v405 : BitVec 32 := Scalar.muli v37 c64_i32_221
  let v406 : Index := Scalar.indexCast v405
  let c0_222 : Index := 0#32
  ![v406.toNat, 0]
def k0_off5 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32 : BitVec 32 := 4#32
  let v13 : BitVec 32 := Scalar.muli arg40 c4_i32
  let c0_i32_22 : BitVec 32 := 0#32
  let v14 : BitVec 32 := Scalar.addi v13 c0_i32_22
  let c0_i32_29 : BitVec 32 := 0#32
  let v22 : BitVec 1 := Scalar.cmpi .sgt v14 c0_i32_29
  let v23 : BitVec 32 := Scalar.extui v22
  let c0_i32_30 : BitVec 32 := 0#32
  let v24 : BitVec 1 := Scalar.cmpi .slt v14 c0_i32_30
  let v25 : BitVec 32 := Scalar.extui v24
  let v26 : BitVec 32 := Scalar.subi v23 v25
  let c5_i32 : BitVec 32 := 5#32
  let c0_i32_31 : BitVec 32 := 0#32
  let v27 : BitVec 1 := Scalar.cmpi .sgt c5_i32 c0_i32_31
  let v28 : BitVec 32 := Scalar.extui v27
  let c0_i32_32 : BitVec 32 := 0#32
  let v29 : BitVec 1 := Scalar.cmpi .slt c5_i32 c0_i32_32
  let v30 : BitVec 32 := Scalar.extui v29
  let v31 : BitVec 32 := Scalar.subi v28 v30
  let v32 : BitVec 1 := Scalar.cmpi .ne v26 v31
  let v33 : BitVec 32 := Scalar.remsi v14 c5_i32
  let c0_i32_33 : BitVec 32 := 0#32
  let v34 : BitVec 1 := Scalar.cmpi .ne v33 c0_i32_33
  let v35 : BitVec 1 := Scalar.andi v32 v34
  let v21 : BitVec 32 := Scalar.divsi v14 c5_i32
  let c1_i32_34 : BitVec 32 := 1#32
  let v36 : BitVec 32 := Scalar.subi v21 c1_i32_34
  let v37 : BitVec 32 := Scalar.select v35 v36 v21
  let c64_i32_242 : BitVec 32 := 64#32
  let v455 : BitVec 32 := Scalar.muli v37 c64_i32_242
  let v456 : Index := Scalar.indexCast v455
  let c0_243 : Index := 0#32
  ![v456.toNat, 0]
def k0_off6 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32 : BitVec 32 := 4#32
  let v13 : BitVec 32 := Scalar.muli arg40 c4_i32
  let c0_i32_22 : BitVec 32 := 0#32
  let v14 : BitVec 32 := Scalar.addi v13 c0_i32_22
  let c0_i32_29 : BitVec 32 := 0#32
  let v22 : BitVec 1 := Scalar.cmpi .sgt v14 c0_i32_29
  let v23 : BitVec 32 := Scalar.extui v22
  let c0_i32_30 : BitVec 32 := 0#32
  let v24 : BitVec 1 := Scalar.cmpi .slt v14 c0_i32_30
  let v25 : BitVec 32 := Scalar.extui v24
  let v26 : BitVec 32 := Scalar.subi v23 v25
  let c5_i32 : BitVec 32 := 5#32
  let c0_i32_31 : BitVec 32 := 0#32
  let v27 : BitVec 1 := Scalar.cmpi .sgt c5_i32 c0_i32_31
  let v28 : BitVec 32 := Scalar.extui v27
  let c0_i32_32 : BitVec 32 := 0#32
  let v29 : BitVec 1 := Scalar.cmpi .slt c5_i32 c0_i32_32
  let v30 : BitVec 32 := Scalar.extui v29
  let v31 : BitVec 32 := Scalar.subi v28 v30
  let v32 : BitVec 1 := Scalar.cmpi .ne v26 v31
  let v33 : BitVec 32 := Scalar.remsi v14 c5_i32
  let c0_i32_33 : BitVec 32 := 0#32
  let v34 : BitVec 1 := Scalar.cmpi .ne v33 c0_i32_33
  let v35 : BitVec 1 := Scalar.andi v32 v34
  let v21 : BitVec 32 := Scalar.divsi v14 c5_i32
  let c1_i32_34 : BitVec 32 := 1#32
  let v36 : BitVec 32 := Scalar.subi v21 c1_i32_34
  let v37 : BitVec 32 := Scalar.select v35 v36 v21
  let c64_i32_258 : BitVec 32 := 64#32
  let v494 : BitVec 32 := Scalar.muli v37 c64_i32_258
  let v495 : Index := Scalar.indexCast v494
  let c0_259 : Index := 0#32
  ![v495.toNat, 0]
def k0_cond4 (k0_t1 : Fin k0_t1_loop.trips) : BitVec 1 :=
  let c0_i32_20 : BitVec 32 := 0#32
  let c1_i32 : BitVec 32 := 1#32
  let arg40 : BitVec 32 := Scf.iv c0_i32_20 c1_i32 k0_t1
  let c4_i32 : BitVec 32 := 4#32
  let v13 : BitVec 32 := Scalar.muli arg40 c4_i32
  let c0_i32_22 : BitVec 32 := 0#32
  let v14 : BitVec 32 := Scalar.addi v13 c0_i32_22
  let c4_i32_65 : BitVec 32 := 4#32
  let v107 : BitVec 32 := Scalar.addi v14 c4_i32_65
  let c80_i32 : BitVec 32 := 80#32
  let v108 : BitVec 1 := Scalar.cmpi .slt v107 c80_i32
  let v109 : BitVec 32 := Scalar.extui v108
  let c0_i32_66 : BitVec 32 := 0#32
  let v110 : BitVec 1 := Scalar.cmpi .ne v109 c0_i32_66
  v110

def k0_off7 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32 : BitVec 32 := 4#32
  let v13 : BitVec 32 := Scalar.muli arg40 c4_i32
  let c0_i32_22 : BitVec 32 := 0#32
  let v14 : BitVec 32 := Scalar.addi v13 c0_i32_22
  let c4_i32_65 : BitVec 32 := 4#32
  let v107 : BitVec 32 := Scalar.addi v14 c4_i32_65
  let c640_i32_221 : BitVec 32 := 640#32
  let v405 : BitVec 32 := Scalar.muli v107 c640_i32_221
  let c0_i32_222 : BitVec 32 := 0#32
  ![v405.toNat, 0]
def k0_off8 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32 : BitVec 32 := 4#32
  let v13 : BitVec 32 := Scalar.muli arg40 c4_i32
  let c0_i32_22 : BitVec 32 := 0#32
  let v14 : BitVec 32 := Scalar.addi v13 c0_i32_22
  let c4_i32_65 : BitVec 32 := 4#32
  let v107 : BitVec 32 := Scalar.addi v14 c4_i32_65
  let c640_i32_223 : BitVec 32 := 640#32
  let v407 : BitVec 32 := Scalar.muli v107 c640_i32_223
  let c0_i32_224 : BitVec 32 := 0#32
  ![v407.toNat, 0]
def k0_cond7 (k0_t1 : Fin k0_t1_loop.trips) : BitVec 1 :=
  let c0_i32_20 : BitVec 32 := 0#32
  let c1_i32 : BitVec 32 := 1#32
  let arg40 : BitVec 32 := Scf.iv c0_i32_20 c1_i32 k0_t1
  let c4_i32_67 : BitVec 32 := 4#32
  let v111 : BitVec 32 := Scalar.muli arg40 c4_i32_67
  let c1_i32_68 : BitVec 32 := 1#32
  let v112 : BitVec 32 := Scalar.addi v111 c1_i32_68
  let c5_i32_82 : BitVec 32 := 5#32
  let c0_i32_83 : BitVec 32 := 0#32
  let v136 : BitVec 1 := Scalar.cmpi .eq c5_i32_82 c0_i32_83
  let c1_i32_84 : BitVec 32 := 1#32
  let v137 : BitVec 32 := Scalar.select v136 c1_i32_84 c5_i32_82
  let v138 : BitVec 32 := Scalar.remsi v112 v137
  let c0_i32_86 : BitVec 32 := 0#32
  let v140 : BitVec 1 := Scalar.cmpi .slt v138 c0_i32_86
  let c0_i32_87 : BitVec 32 := 0#32
  let v141 : BitVec 1 := Scalar.cmpi .slt v137 c0_i32_87
  let v142 : BitVec 1 := Scalar.xori v140 v141
  let c0_i32_85 : BitVec 32 := 0#32
  let v139 : BitVec 1 := Scalar.cmpi .ne v138 c0_i32_85
  let v143 : BitVec 1 := Scalar.andi v142 v139
  let v144 : BitVec 32 := Scalar.addi v138 v137
  let v145 : BitVec 32 := Scalar.select v143 v144 v138
  let c4_i32_114 : BitVec 32 := 4#32
  let v202 : BitVec 1 := Scalar.cmpi .eq v145 c4_i32_114
  let v203 : BitVec 32 := Scalar.extui v202
  let c0_i32_115 : BitVec 32 := 0#32
  let v204 : BitVec 1 := Scalar.cmpi .ne v203 c0_i32_115
  v204

def k0_off9 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_67 : BitVec 32 := 4#32
  let v111 : BitVec 32 := Scalar.muli arg40 c4_i32_67
  let c1_i32_68 : BitVec 32 := 1#32
  let v112 : BitVec 32 := Scalar.addi v111 c1_i32_68
  let c0_i32_76 : BitVec 32 := 0#32
  let v120 : BitVec 1 := Scalar.cmpi .sgt v112 c0_i32_76
  let v121 : BitVec 32 := Scalar.extui v120
  let c0_i32_77 : BitVec 32 := 0#32
  let v122 : BitVec 1 := Scalar.cmpi .slt v112 c0_i32_77
  let v123 : BitVec 32 := Scalar.extui v122
  let v124 : BitVec 32 := Scalar.subi v121 v123
  let c5_i32_75 : BitVec 32 := 5#32
  let c0_i32_78 : BitVec 32 := 0#32
  let v125 : BitVec 1 := Scalar.cmpi .sgt c5_i32_75 c0_i32_78
  let v126 : BitVec 32 := Scalar.extui v125
  let c0_i32_79 : BitVec 32 := 0#32
  let v127 : BitVec 1 := Scalar.cmpi .slt c5_i32_75 c0_i32_79
  let v128 : BitVec 32 := Scalar.extui v127
  let v129 : BitVec 32 := Scalar.subi v126 v128
  let v130 : BitVec 1 := Scalar.cmpi .ne v124 v129
  let v131 : BitVec 32 := Scalar.remsi v112 c5_i32_75
  let c0_i32_80 : BitVec 32 := 0#32
  let v132 : BitVec 1 := Scalar.cmpi .ne v131 c0_i32_80
  let v133 : BitVec 1 := Scalar.andi v130 v132
  let v119 : BitVec 32 := Scalar.divsi v112 c5_i32_75
  let c1_i32_81 : BitVec 32 := 1#32
  let v134 : BitVec 32 := Scalar.subi v119 c1_i32_81
  let v135 : BitVec 32 := Scalar.select v133 v134 v119
  let c64_i32_221 : BitVec 32 := 64#32
  let v405 : BitVec 32 := Scalar.muli v135 c64_i32_221
  let v406 : Index := Scalar.indexCast v405
  let c0_222 : Index := 0#32
  ![v406.toNat, 0]
def k0_off10 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_67 : BitVec 32 := 4#32
  let v111 : BitVec 32 := Scalar.muli arg40 c4_i32_67
  let c1_i32_68 : BitVec 32 := 1#32
  let v112 : BitVec 32 := Scalar.addi v111 c1_i32_68
  let c0_i32_76 : BitVec 32 := 0#32
  let v120 : BitVec 1 := Scalar.cmpi .sgt v112 c0_i32_76
  let v121 : BitVec 32 := Scalar.extui v120
  let c0_i32_77 : BitVec 32 := 0#32
  let v122 : BitVec 1 := Scalar.cmpi .slt v112 c0_i32_77
  let v123 : BitVec 32 := Scalar.extui v122
  let v124 : BitVec 32 := Scalar.subi v121 v123
  let c5_i32_75 : BitVec 32 := 5#32
  let c0_i32_78 : BitVec 32 := 0#32
  let v125 : BitVec 1 := Scalar.cmpi .sgt c5_i32_75 c0_i32_78
  let v126 : BitVec 32 := Scalar.extui v125
  let c0_i32_79 : BitVec 32 := 0#32
  let v127 : BitVec 1 := Scalar.cmpi .slt c5_i32_75 c0_i32_79
  let v128 : BitVec 32 := Scalar.extui v127
  let v129 : BitVec 32 := Scalar.subi v126 v128
  let v130 : BitVec 1 := Scalar.cmpi .ne v124 v129
  let v131 : BitVec 32 := Scalar.remsi v112 c5_i32_75
  let c0_i32_80 : BitVec 32 := 0#32
  let v132 : BitVec 1 := Scalar.cmpi .ne v131 c0_i32_80
  let v133 : BitVec 1 := Scalar.andi v130 v132
  let v119 : BitVec 32 := Scalar.divsi v112 c5_i32_75
  let c1_i32_81 : BitVec 32 := 1#32
  let v134 : BitVec 32 := Scalar.subi v119 c1_i32_81
  let v135 : BitVec 32 := Scalar.select v133 v134 v119
  let c64_i32_242 : BitVec 32 := 64#32
  let v455 : BitVec 32 := Scalar.muli v135 c64_i32_242
  let v456 : Index := Scalar.indexCast v455
  let c0_243 : Index := 0#32
  ![v456.toNat, 0]
def k0_off11 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_67 : BitVec 32 := 4#32
  let v111 : BitVec 32 := Scalar.muli arg40 c4_i32_67
  let c1_i32_68 : BitVec 32 := 1#32
  let v112 : BitVec 32 := Scalar.addi v111 c1_i32_68
  let c0_i32_76 : BitVec 32 := 0#32
  let v120 : BitVec 1 := Scalar.cmpi .sgt v112 c0_i32_76
  let v121 : BitVec 32 := Scalar.extui v120
  let c0_i32_77 : BitVec 32 := 0#32
  let v122 : BitVec 1 := Scalar.cmpi .slt v112 c0_i32_77
  let v123 : BitVec 32 := Scalar.extui v122
  let v124 : BitVec 32 := Scalar.subi v121 v123
  let c5_i32_75 : BitVec 32 := 5#32
  let c0_i32_78 : BitVec 32 := 0#32
  let v125 : BitVec 1 := Scalar.cmpi .sgt c5_i32_75 c0_i32_78
  let v126 : BitVec 32 := Scalar.extui v125
  let c0_i32_79 : BitVec 32 := 0#32
  let v127 : BitVec 1 := Scalar.cmpi .slt c5_i32_75 c0_i32_79
  let v128 : BitVec 32 := Scalar.extui v127
  let v129 : BitVec 32 := Scalar.subi v126 v128
  let v130 : BitVec 1 := Scalar.cmpi .ne v124 v129
  let v131 : BitVec 32 := Scalar.remsi v112 c5_i32_75
  let c0_i32_80 : BitVec 32 := 0#32
  let v132 : BitVec 1 := Scalar.cmpi .ne v131 c0_i32_80
  let v133 : BitVec 1 := Scalar.andi v130 v132
  let v119 : BitVec 32 := Scalar.divsi v112 c5_i32_75
  let c1_i32_81 : BitVec 32 := 1#32
  let v134 : BitVec 32 := Scalar.subi v119 c1_i32_81
  let v135 : BitVec 32 := Scalar.select v133 v134 v119
  let c64_i32_258 : BitVec 32 := 64#32
  let v494 : BitVec 32 := Scalar.muli v135 c64_i32_258
  let v495 : Index := Scalar.indexCast v494
  let c0_259 : Index := 0#32
  ![v495.toNat, 0]
def k0_cond8 (k0_t1 : Fin k0_t1_loop.trips) : BitVec 1 :=
  let c0_i32_20 : BitVec 32 := 0#32
  let c1_i32 : BitVec 32 := 1#32
  let arg40 : BitVec 32 := Scf.iv c0_i32_20 c1_i32 k0_t1
  let c4_i32_67 : BitVec 32 := 4#32
  let v111 : BitVec 32 := Scalar.muli arg40 c4_i32_67
  let c1_i32_68 : BitVec 32 := 1#32
  let v112 : BitVec 32 := Scalar.addi v111 c1_i32_68
  let c4_i32_116 : BitVec 32 := 4#32
  let v205 : BitVec 32 := Scalar.addi v112 c4_i32_116
  let c80_i32_117 : BitVec 32 := 80#32
  let v206 : BitVec 1 := Scalar.cmpi .slt v205 c80_i32_117
  let v207 : BitVec 32 := Scalar.extui v206
  let c0_i32_118 : BitVec 32 := 0#32
  let v208 : BitVec 1 := Scalar.cmpi .ne v207 c0_i32_118
  v208

def k0_off12 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_67 : BitVec 32 := 4#32
  let v111 : BitVec 32 := Scalar.muli arg40 c4_i32_67
  let c1_i32_68 : BitVec 32 := 1#32
  let v112 : BitVec 32 := Scalar.addi v111 c1_i32_68
  let c4_i32_116 : BitVec 32 := 4#32
  let v205 : BitVec 32 := Scalar.addi v112 c4_i32_116
  let c640_i32_221 : BitVec 32 := 640#32
  let v405 : BitVec 32 := Scalar.muli v205 c640_i32_221
  let c0_i32_222 : BitVec 32 := 0#32
  ![v405.toNat, 0]
def k0_off13 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_67 : BitVec 32 := 4#32
  let v111 : BitVec 32 := Scalar.muli arg40 c4_i32_67
  let c1_i32_68 : BitVec 32 := 1#32
  let v112 : BitVec 32 := Scalar.addi v111 c1_i32_68
  let c4_i32_116 : BitVec 32 := 4#32
  let v205 : BitVec 32 := Scalar.addi v112 c4_i32_116
  let c640_i32_223 : BitVec 32 := 640#32
  let v407 : BitVec 32 := Scalar.muli v205 c640_i32_223
  let c0_i32_224 : BitVec 32 := 0#32
  ![v407.toNat, 0]
def k0_cond11 (k0_t1 : Fin k0_t1_loop.trips) : BitVec 1 :=
  let c0_i32_20 : BitVec 32 := 0#32
  let c1_i32 : BitVec 32 := 1#32
  let arg40 : BitVec 32 := Scf.iv c0_i32_20 c1_i32 k0_t1
  let c4_i32_119 : BitVec 32 := 4#32
  let v209 : BitVec 32 := Scalar.muli arg40 c4_i32_119
  let c2_i32 : BitVec 32 := 2#32
  let v210 : BitVec 32 := Scalar.addi v209 c2_i32
  let c5_i32_133 : BitVec 32 := 5#32
  let c0_i32_134 : BitVec 32 := 0#32
  let v234 : BitVec 1 := Scalar.cmpi .eq c5_i32_133 c0_i32_134
  let c1_i32_135 : BitVec 32 := 1#32
  let v235 : BitVec 32 := Scalar.select v234 c1_i32_135 c5_i32_133
  let v236 : BitVec 32 := Scalar.remsi v210 v235
  let c0_i32_137 : BitVec 32 := 0#32
  let v238 : BitVec 1 := Scalar.cmpi .slt v236 c0_i32_137
  let c0_i32_138 : BitVec 32 := 0#32
  let v239 : BitVec 1 := Scalar.cmpi .slt v235 c0_i32_138
  let v240 : BitVec 1 := Scalar.xori v238 v239
  let c0_i32_136 : BitVec 32 := 0#32
  let v237 : BitVec 1 := Scalar.cmpi .ne v236 c0_i32_136
  let v241 : BitVec 1 := Scalar.andi v240 v237
  let v242 : BitVec 32 := Scalar.addi v236 v235
  let v243 : BitVec 32 := Scalar.select v241 v242 v236
  let c4_i32_165 : BitVec 32 := 4#32
  let v300 : BitVec 1 := Scalar.cmpi .eq v243 c4_i32_165
  let v301 : BitVec 32 := Scalar.extui v300
  let c0_i32_166 : BitVec 32 := 0#32
  let v302 : BitVec 1 := Scalar.cmpi .ne v301 c0_i32_166
  v302

def k0_off14 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_119 : BitVec 32 := 4#32
  let v209 : BitVec 32 := Scalar.muli arg40 c4_i32_119
  let c2_i32 : BitVec 32 := 2#32
  let v210 : BitVec 32 := Scalar.addi v209 c2_i32
  let c0_i32_127 : BitVec 32 := 0#32
  let v218 : BitVec 1 := Scalar.cmpi .sgt v210 c0_i32_127
  let v219 : BitVec 32 := Scalar.extui v218
  let c0_i32_128 : BitVec 32 := 0#32
  let v220 : BitVec 1 := Scalar.cmpi .slt v210 c0_i32_128
  let v221 : BitVec 32 := Scalar.extui v220
  let v222 : BitVec 32 := Scalar.subi v219 v221
  let c5_i32_126 : BitVec 32 := 5#32
  let c0_i32_129 : BitVec 32 := 0#32
  let v223 : BitVec 1 := Scalar.cmpi .sgt c5_i32_126 c0_i32_129
  let v224 : BitVec 32 := Scalar.extui v223
  let c0_i32_130 : BitVec 32 := 0#32
  let v225 : BitVec 1 := Scalar.cmpi .slt c5_i32_126 c0_i32_130
  let v226 : BitVec 32 := Scalar.extui v225
  let v227 : BitVec 32 := Scalar.subi v224 v226
  let v228 : BitVec 1 := Scalar.cmpi .ne v222 v227
  let v229 : BitVec 32 := Scalar.remsi v210 c5_i32_126
  let c0_i32_131 : BitVec 32 := 0#32
  let v230 : BitVec 1 := Scalar.cmpi .ne v229 c0_i32_131
  let v231 : BitVec 1 := Scalar.andi v228 v230
  let v217 : BitVec 32 := Scalar.divsi v210 c5_i32_126
  let c1_i32_132 : BitVec 32 := 1#32
  let v232 : BitVec 32 := Scalar.subi v217 c1_i32_132
  let v233 : BitVec 32 := Scalar.select v231 v232 v217
  let c64_i32_221 : BitVec 32 := 64#32
  let v405 : BitVec 32 := Scalar.muli v233 c64_i32_221
  let v406 : Index := Scalar.indexCast v405
  let c0_222 : Index := 0#32
  ![v406.toNat, 0]
def k0_off15 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_119 : BitVec 32 := 4#32
  let v209 : BitVec 32 := Scalar.muli arg40 c4_i32_119
  let c2_i32 : BitVec 32 := 2#32
  let v210 : BitVec 32 := Scalar.addi v209 c2_i32
  let c0_i32_127 : BitVec 32 := 0#32
  let v218 : BitVec 1 := Scalar.cmpi .sgt v210 c0_i32_127
  let v219 : BitVec 32 := Scalar.extui v218
  let c0_i32_128 : BitVec 32 := 0#32
  let v220 : BitVec 1 := Scalar.cmpi .slt v210 c0_i32_128
  let v221 : BitVec 32 := Scalar.extui v220
  let v222 : BitVec 32 := Scalar.subi v219 v221
  let c5_i32_126 : BitVec 32 := 5#32
  let c0_i32_129 : BitVec 32 := 0#32
  let v223 : BitVec 1 := Scalar.cmpi .sgt c5_i32_126 c0_i32_129
  let v224 : BitVec 32 := Scalar.extui v223
  let c0_i32_130 : BitVec 32 := 0#32
  let v225 : BitVec 1 := Scalar.cmpi .slt c5_i32_126 c0_i32_130
  let v226 : BitVec 32 := Scalar.extui v225
  let v227 : BitVec 32 := Scalar.subi v224 v226
  let v228 : BitVec 1 := Scalar.cmpi .ne v222 v227
  let v229 : BitVec 32 := Scalar.remsi v210 c5_i32_126
  let c0_i32_131 : BitVec 32 := 0#32
  let v230 : BitVec 1 := Scalar.cmpi .ne v229 c0_i32_131
  let v231 : BitVec 1 := Scalar.andi v228 v230
  let v217 : BitVec 32 := Scalar.divsi v210 c5_i32_126
  let c1_i32_132 : BitVec 32 := 1#32
  let v232 : BitVec 32 := Scalar.subi v217 c1_i32_132
  let v233 : BitVec 32 := Scalar.select v231 v232 v217
  let c64_i32_242 : BitVec 32 := 64#32
  let v455 : BitVec 32 := Scalar.muli v233 c64_i32_242
  let v456 : Index := Scalar.indexCast v455
  let c0_243 : Index := 0#32
  ![v456.toNat, 0]
def k0_off16 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_119 : BitVec 32 := 4#32
  let v209 : BitVec 32 := Scalar.muli arg40 c4_i32_119
  let c2_i32 : BitVec 32 := 2#32
  let v210 : BitVec 32 := Scalar.addi v209 c2_i32
  let c0_i32_127 : BitVec 32 := 0#32
  let v218 : BitVec 1 := Scalar.cmpi .sgt v210 c0_i32_127
  let v219 : BitVec 32 := Scalar.extui v218
  let c0_i32_128 : BitVec 32 := 0#32
  let v220 : BitVec 1 := Scalar.cmpi .slt v210 c0_i32_128
  let v221 : BitVec 32 := Scalar.extui v220
  let v222 : BitVec 32 := Scalar.subi v219 v221
  let c5_i32_126 : BitVec 32 := 5#32
  let c0_i32_129 : BitVec 32 := 0#32
  let v223 : BitVec 1 := Scalar.cmpi .sgt c5_i32_126 c0_i32_129
  let v224 : BitVec 32 := Scalar.extui v223
  let c0_i32_130 : BitVec 32 := 0#32
  let v225 : BitVec 1 := Scalar.cmpi .slt c5_i32_126 c0_i32_130
  let v226 : BitVec 32 := Scalar.extui v225
  let v227 : BitVec 32 := Scalar.subi v224 v226
  let v228 : BitVec 1 := Scalar.cmpi .ne v222 v227
  let v229 : BitVec 32 := Scalar.remsi v210 c5_i32_126
  let c0_i32_131 : BitVec 32 := 0#32
  let v230 : BitVec 1 := Scalar.cmpi .ne v229 c0_i32_131
  let v231 : BitVec 1 := Scalar.andi v228 v230
  let v217 : BitVec 32 := Scalar.divsi v210 c5_i32_126
  let c1_i32_132 : BitVec 32 := 1#32
  let v232 : BitVec 32 := Scalar.subi v217 c1_i32_132
  let v233 : BitVec 32 := Scalar.select v231 v232 v217
  let c64_i32_258 : BitVec 32 := 64#32
  let v494 : BitVec 32 := Scalar.muli v233 c64_i32_258
  let v495 : Index := Scalar.indexCast v494
  let c0_259 : Index := 0#32
  ![v495.toNat, 0]
def k0_cond12 (k0_t1 : Fin k0_t1_loop.trips) : BitVec 1 :=
  let c0_i32_20 : BitVec 32 := 0#32
  let c1_i32 : BitVec 32 := 1#32
  let arg40 : BitVec 32 := Scf.iv c0_i32_20 c1_i32 k0_t1
  let c4_i32_119 : BitVec 32 := 4#32
  let v209 : BitVec 32 := Scalar.muli arg40 c4_i32_119
  let c2_i32 : BitVec 32 := 2#32
  let v210 : BitVec 32 := Scalar.addi v209 c2_i32
  let c4_i32_167 : BitVec 32 := 4#32
  let v303 : BitVec 32 := Scalar.addi v210 c4_i32_167
  let c80_i32_168 : BitVec 32 := 80#32
  let v304 : BitVec 1 := Scalar.cmpi .slt v303 c80_i32_168
  let v305 : BitVec 32 := Scalar.extui v304
  let c0_i32_169 : BitVec 32 := 0#32
  let v306 : BitVec 1 := Scalar.cmpi .ne v305 c0_i32_169
  v306

def k0_off17 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_119 : BitVec 32 := 4#32
  let v209 : BitVec 32 := Scalar.muli arg40 c4_i32_119
  let c2_i32 : BitVec 32 := 2#32
  let v210 : BitVec 32 := Scalar.addi v209 c2_i32
  let c4_i32_167 : BitVec 32 := 4#32
  let v303 : BitVec 32 := Scalar.addi v210 c4_i32_167
  let c640_i32_221 : BitVec 32 := 640#32
  let v405 : BitVec 32 := Scalar.muli v303 c640_i32_221
  let c0_i32_222 : BitVec 32 := 0#32
  ![v405.toNat, 0]
def k0_off18 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_119 : BitVec 32 := 4#32
  let v209 : BitVec 32 := Scalar.muli arg40 c4_i32_119
  let c2_i32 : BitVec 32 := 2#32
  let v210 : BitVec 32 := Scalar.addi v209 c2_i32
  let c4_i32_167 : BitVec 32 := 4#32
  let v303 : BitVec 32 := Scalar.addi v210 c4_i32_167
  let c640_i32_223 : BitVec 32 := 640#32
  let v407 : BitVec 32 := Scalar.muli v303 c640_i32_223
  let c0_i32_224 : BitVec 32 := 0#32
  ![v407.toNat, 0]
def k0_cond15 (k0_t1 : Fin k0_t1_loop.trips) : BitVec 1 :=
  let c0_i32_20 : BitVec 32 := 0#32
  let c1_i32 : BitVec 32 := 1#32
  let arg40 : BitVec 32 := Scf.iv c0_i32_20 c1_i32 k0_t1
  let c4_i32_170 : BitVec 32 := 4#32
  let v307 : BitVec 32 := Scalar.muli arg40 c4_i32_170
  let c3_i32 : BitVec 32 := 3#32
  let v308 : BitVec 32 := Scalar.addi v307 c3_i32
  let c5_i32_184 : BitVec 32 := 5#32
  let c0_i32_185 : BitVec 32 := 0#32
  let v332 : BitVec 1 := Scalar.cmpi .eq c5_i32_184 c0_i32_185
  let c1_i32_186 : BitVec 32 := 1#32
  let v333 : BitVec 32 := Scalar.select v332 c1_i32_186 c5_i32_184
  let v334 : BitVec 32 := Scalar.remsi v308 v333
  let c0_i32_188 : BitVec 32 := 0#32
  let v336 : BitVec 1 := Scalar.cmpi .slt v334 c0_i32_188
  let c0_i32_189 : BitVec 32 := 0#32
  let v337 : BitVec 1 := Scalar.cmpi .slt v333 c0_i32_189
  let v338 : BitVec 1 := Scalar.xori v336 v337
  let c0_i32_187 : BitVec 32 := 0#32
  let v335 : BitVec 1 := Scalar.cmpi .ne v334 c0_i32_187
  let v339 : BitVec 1 := Scalar.andi v338 v335
  let v340 : BitVec 32 := Scalar.addi v334 v333
  let v341 : BitVec 32 := Scalar.select v339 v340 v334
  let c4_i32_216 : BitVec 32 := 4#32
  let v398 : BitVec 1 := Scalar.cmpi .eq v341 c4_i32_216
  let v399 : BitVec 32 := Scalar.extui v398
  let c0_i32_217 : BitVec 32 := 0#32
  let v400 : BitVec 1 := Scalar.cmpi .ne v399 c0_i32_217
  v400

def k0_off19 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_170 : BitVec 32 := 4#32
  let v307 : BitVec 32 := Scalar.muli arg40 c4_i32_170
  let c3_i32 : BitVec 32 := 3#32
  let v308 : BitVec 32 := Scalar.addi v307 c3_i32
  let c0_i32_178 : BitVec 32 := 0#32
  let v316 : BitVec 1 := Scalar.cmpi .sgt v308 c0_i32_178
  let v317 : BitVec 32 := Scalar.extui v316
  let c0_i32_179 : BitVec 32 := 0#32
  let v318 : BitVec 1 := Scalar.cmpi .slt v308 c0_i32_179
  let v319 : BitVec 32 := Scalar.extui v318
  let v320 : BitVec 32 := Scalar.subi v317 v319
  let c5_i32_177 : BitVec 32 := 5#32
  let c0_i32_180 : BitVec 32 := 0#32
  let v321 : BitVec 1 := Scalar.cmpi .sgt c5_i32_177 c0_i32_180
  let v322 : BitVec 32 := Scalar.extui v321
  let c0_i32_181 : BitVec 32 := 0#32
  let v323 : BitVec 1 := Scalar.cmpi .slt c5_i32_177 c0_i32_181
  let v324 : BitVec 32 := Scalar.extui v323
  let v325 : BitVec 32 := Scalar.subi v322 v324
  let v326 : BitVec 1 := Scalar.cmpi .ne v320 v325
  let v327 : BitVec 32 := Scalar.remsi v308 c5_i32_177
  let c0_i32_182 : BitVec 32 := 0#32
  let v328 : BitVec 1 := Scalar.cmpi .ne v327 c0_i32_182
  let v329 : BitVec 1 := Scalar.andi v326 v328
  let v315 : BitVec 32 := Scalar.divsi v308 c5_i32_177
  let c1_i32_183 : BitVec 32 := 1#32
  let v330 : BitVec 32 := Scalar.subi v315 c1_i32_183
  let v331 : BitVec 32 := Scalar.select v329 v330 v315
  let c64_i32_221 : BitVec 32 := 64#32
  let v405 : BitVec 32 := Scalar.muli v331 c64_i32_221
  let v406 : Index := Scalar.indexCast v405
  let c0_222 : Index := 0#32
  ![v406.toNat, 0]
def k0_off20 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_170 : BitVec 32 := 4#32
  let v307 : BitVec 32 := Scalar.muli arg40 c4_i32_170
  let c3_i32 : BitVec 32 := 3#32
  let v308 : BitVec 32 := Scalar.addi v307 c3_i32
  let c0_i32_178 : BitVec 32 := 0#32
  let v316 : BitVec 1 := Scalar.cmpi .sgt v308 c0_i32_178
  let v317 : BitVec 32 := Scalar.extui v316
  let c0_i32_179 : BitVec 32 := 0#32
  let v318 : BitVec 1 := Scalar.cmpi .slt v308 c0_i32_179
  let v319 : BitVec 32 := Scalar.extui v318
  let v320 : BitVec 32 := Scalar.subi v317 v319
  let c5_i32_177 : BitVec 32 := 5#32
  let c0_i32_180 : BitVec 32 := 0#32
  let v321 : BitVec 1 := Scalar.cmpi .sgt c5_i32_177 c0_i32_180
  let v322 : BitVec 32 := Scalar.extui v321
  let c0_i32_181 : BitVec 32 := 0#32
  let v323 : BitVec 1 := Scalar.cmpi .slt c5_i32_177 c0_i32_181
  let v324 : BitVec 32 := Scalar.extui v323
  let v325 : BitVec 32 := Scalar.subi v322 v324
  let v326 : BitVec 1 := Scalar.cmpi .ne v320 v325
  let v327 : BitVec 32 := Scalar.remsi v308 c5_i32_177
  let c0_i32_182 : BitVec 32 := 0#32
  let v328 : BitVec 1 := Scalar.cmpi .ne v327 c0_i32_182
  let v329 : BitVec 1 := Scalar.andi v326 v328
  let v315 : BitVec 32 := Scalar.divsi v308 c5_i32_177
  let c1_i32_183 : BitVec 32 := 1#32
  let v330 : BitVec 32 := Scalar.subi v315 c1_i32_183
  let v331 : BitVec 32 := Scalar.select v329 v330 v315
  let c64_i32_242 : BitVec 32 := 64#32
  let v455 : BitVec 32 := Scalar.muli v331 c64_i32_242
  let v456 : Index := Scalar.indexCast v455
  let c0_243 : Index := 0#32
  ![v456.toNat, 0]
def k0_off21 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_170 : BitVec 32 := 4#32
  let v307 : BitVec 32 := Scalar.muli arg40 c4_i32_170
  let c3_i32 : BitVec 32 := 3#32
  let v308 : BitVec 32 := Scalar.addi v307 c3_i32
  let c0_i32_178 : BitVec 32 := 0#32
  let v316 : BitVec 1 := Scalar.cmpi .sgt v308 c0_i32_178
  let v317 : BitVec 32 := Scalar.extui v316
  let c0_i32_179 : BitVec 32 := 0#32
  let v318 : BitVec 1 := Scalar.cmpi .slt v308 c0_i32_179
  let v319 : BitVec 32 := Scalar.extui v318
  let v320 : BitVec 32 := Scalar.subi v317 v319
  let c5_i32_177 : BitVec 32 := 5#32
  let c0_i32_180 : BitVec 32 := 0#32
  let v321 : BitVec 1 := Scalar.cmpi .sgt c5_i32_177 c0_i32_180
  let v322 : BitVec 32 := Scalar.extui v321
  let c0_i32_181 : BitVec 32 := 0#32
  let v323 : BitVec 1 := Scalar.cmpi .slt c5_i32_177 c0_i32_181
  let v324 : BitVec 32 := Scalar.extui v323
  let v325 : BitVec 32 := Scalar.subi v322 v324
  let v326 : BitVec 1 := Scalar.cmpi .ne v320 v325
  let v327 : BitVec 32 := Scalar.remsi v308 c5_i32_177
  let c0_i32_182 : BitVec 32 := 0#32
  let v328 : BitVec 1 := Scalar.cmpi .ne v327 c0_i32_182
  let v329 : BitVec 1 := Scalar.andi v326 v328
  let v315 : BitVec 32 := Scalar.divsi v308 c5_i32_177
  let c1_i32_183 : BitVec 32 := 1#32
  let v330 : BitVec 32 := Scalar.subi v315 c1_i32_183
  let v331 : BitVec 32 := Scalar.select v329 v330 v315
  let c64_i32_258 : BitVec 32 := 64#32
  let v494 : BitVec 32 := Scalar.muli v331 c64_i32_258
  let v495 : Index := Scalar.indexCast v494
  let c0_259 : Index := 0#32
  ![v495.toNat, 0]
def k0_cond16 (k0_t1 : Fin k0_t1_loop.trips) : BitVec 1 :=
  let c0_i32_20 : BitVec 32 := 0#32
  let c1_i32 : BitVec 32 := 1#32
  let arg40 : BitVec 32 := Scf.iv c0_i32_20 c1_i32 k0_t1
  let c4_i32_170 : BitVec 32 := 4#32
  let v307 : BitVec 32 := Scalar.muli arg40 c4_i32_170
  let c3_i32 : BitVec 32 := 3#32
  let v308 : BitVec 32 := Scalar.addi v307 c3_i32
  let c4_i32_218 : BitVec 32 := 4#32
  let v401 : BitVec 32 := Scalar.addi v308 c4_i32_218
  let c80_i32_219 : BitVec 32 := 80#32
  let v402 : BitVec 1 := Scalar.cmpi .slt v401 c80_i32_219
  let v403 : BitVec 32 := Scalar.extui v402
  let c0_i32_220 : BitVec 32 := 0#32
  let v404 : BitVec 1 := Scalar.cmpi .ne v403 c0_i32_220
  v404

def k0_off22 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_170 : BitVec 32 := 4#32
  let v307 : BitVec 32 := Scalar.muli arg40 c4_i32_170
  let c3_i32 : BitVec 32 := 3#32
  let v308 : BitVec 32 := Scalar.addi v307 c3_i32
  let c4_i32_218 : BitVec 32 := 4#32
  let v401 : BitVec 32 := Scalar.addi v308 c4_i32_218
  let c640_i32_221 : BitVec 32 := 640#32
  let v405 : BitVec 32 := Scalar.muli v401 c640_i32_221
  let c0_i32_222 : BitVec 32 := 0#32
  ![v405.toNat, 0]
def k0_off23 (k0_t1 : Fin k0_t1_loop.trips) : Fin 2 → Nat :=
  let c0_i32_20 : BitVec 32 := 0#32
  let c1_i32 : BitVec 32 := 1#32
  let arg40 : BitVec 32 := Scf.iv c0_i32_20 c1_i32 k0_t1
  let c4_i32_170 : BitVec 32 := 4#32
  let v307 : BitVec 32 := Scalar.muli arg40 c4_i32_170
  let c3_i32 : BitVec 32 := 3#32
  let v308 : BitVec 32 := Scalar.addi v307 c3_i32
  let c4_i32_218 : BitVec 32 := 4#32
  let v401 : BitVec 32 := Scalar.addi v308 c4_i32_218
  let c640_i32_223 : BitVec 32 := 640#32
  let v407 : BitVec 32 := Scalar.muli v401 c640_i32_223
  let c0_i32_224 : BitVec 32 := 0#32
  ![v407.toNat, 0]
abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S100x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S16x60x768 : Shape := ⟨3, ![16, 60, 768]⟩
abbrev S16x60 : Shape := ⟨2, ![16, 60]⟩
abbrev S16x50x64x768 : Shape := ⟨4, ![16, 50, 64, 768]⟩
abbrev S16x50 : Shape := ⟨2, ![16, 50]⟩
abbrev S16x50x64 : Shape := ⟨3, ![16, 50, 64]⟩
abbrev S16x64 : Shape := ⟨2, ![16, 64]⟩
abbrev S16x64x7 : Shape := ⟨3, ![16, 64, 7]⟩
abbrev S16 : Shape := ⟨1, ![16]⟩
abbrev S7x768 : Shape := ⟨2, ![7, 768]⟩
abbrev S768 : Shape := ⟨1, ![768]⟩
abbrev S100x768 : Shape := ⟨2, ![100, 768]⟩
abbrev S_ : Shape := ⟨0, ![]⟩
abbrev S64 : Shape := ⟨1, ![64]⟩
abbrev S1x1x64 : Shape := ⟨3, ![1, 1, 64]⟩
abbrev S16x50x1 : Shape := ⟨3, ![16, 50, 1]⟩
abbrev S16x50x64x1 : Shape := ⟨4, ![16, 50, 64, 1]⟩
abbrev S16x50x768 : Shape := ⟨3, ![16, 50, 768]⟩
abbrev S16x1 : Shape := ⟨2, ![16, 1]⟩
abbrev S800 : Shape := ⟨1, ![800]⟩
abbrev S1024x768 : Shape := ⟨2, ![1024, 768]⟩
abbrev S800x768 : Shape := ⟨2, ![800, 768]⟩
abbrev S800x1 : Shape := ⟨2, ![800, 1]⟩
abbrev S1024 : Shape := ⟨1, ![1024]⟩
abbrev S16x1x1 : Shape := ⟨3, ![16, 1, 1]⟩
abbrev S51200 : Shape := ⟨1, ![51200]⟩
abbrev S51200x768 : Shape := ⟨2, ![51200, 768]⟩
abbrev S51200x1 : Shape := ⟨2, ![51200, 1]⟩
abbrev S1024x1 : Shape := ⟨2, ![1024, 1]⟩
abbrev S16x64x768 : Shape := ⟨3, ![16, 64, 768]⟩
abbrev S1 : Shape := ⟨1, ![1]⟩
abbrev S16x768 : Shape := ⟨2, ![16, 768]⟩
abbrev S1x1x768 : Shape := ⟨3, ![1, 1, 768]⟩
abbrev S16x64x1 : Shape := ⟨3, ![16, 64, 1]⟩
abbrev S1x1x1 : Shape := ⟨3, ![1, 1, 1]⟩

abbrev nBuf : Space → Nat
  | .hbm => 175
  | .vmem => 0
  | .smem => 0
  | _ => 0

abbrev hbmTy0_0 (i : Nat) : BufTy := match i % 128 with
  | 0 => ⟨S16x60x768, .f32⟩
  | 1 => ⟨S16x60, .i1⟩
  | 2 => ⟨S16x50x64x768, .f32⟩
  | 3 => ⟨S16x50, .i32⟩
  | 4 => ⟨S16x50, .i32⟩
  | 5 => ⟨S16x50x64, .i32⟩
  | 6 => ⟨S16x64, .i32⟩
  | 7 => ⟨S16x64, .i32⟩
  | 8 => ⟨S16x64x7, .f32⟩
  | 9 => ⟨S16, .i32⟩
  | 10 => ⟨S7x768, .f32⟩
  | 11 => ⟨S768, .f32⟩
  | 12 => ⟨S768, .f32⟩
  | 13 => ⟨S768, .f32⟩
  | 14 => ⟨S100x768, .f32⟩
  | 15 => ⟨S_, .i32⟩
  | 16 => ⟨S16x50, .i32⟩
  | 17 => ⟨S16x50, .i32⟩
  | 18 => ⟨S64, .i32⟩
  | 19 => ⟨S1x1x64, .i32⟩
  | 20 => ⟨S16x50x1, .i32⟩
  | 21 => ⟨S16x50x64, .i32⟩
  | 22 => ⟨S16x50x64, .i32⟩
  | 23 => ⟨S16x50x64, .i1⟩
  | 24 => ⟨S16x50x64, .f32⟩
  | 25 => ⟨S16x50x64x1, .f32⟩
  | 26 => ⟨S16x50x64x768, .f32⟩
  | 27 => ⟨S16x50x64x768, .f32⟩
  | 28 => ⟨S_, .f32⟩
  | 29 => ⟨S16x50x768, .f32⟩
  | 30 => ⟨S16x50x1, .i32⟩
  | 31 => ⟨S16x50x1, .f32⟩
  | 32 => ⟨S16x50x768, .f32⟩
  | 33 => ⟨S16x50x768, .f32⟩
  | 34 => ⟨S16, .i32⟩
  | 35 => ⟨S16x1, .i32⟩
  | 36 => ⟨S_, .i32⟩
  | 37 => ⟨S16x1, .i32⟩
  | 38 => ⟨S16x1, .i32⟩
  | 39 => ⟨S_, .i32⟩
  | 40 => ⟨S16x50, .i32⟩
  | 41 => ⟨S16x50, .i32⟩
  | 42 => ⟨S16x50, .i32⟩
  | 43 => ⟨S16x50, .i32⟩
  | 44 => ⟨S800, .i32⟩
  | 45 => ⟨S_, .f32⟩
  | 46 => ⟨S1024x768, .f32⟩
  | 47 => ⟨S800x768, .f32⟩
  | 48 => ⟨S_, .i32⟩
  | 49 => ⟨S800, .i32⟩
  | 50 => ⟨S800, .i1⟩
  | 51 => ⟨S_, .i32⟩
  | 52 => ⟨S800, .i32⟩
  | 53 => ⟨S800, .i32⟩
  | 54 => ⟨S800, .i32⟩
  | 55 => ⟨S800x1, .i32⟩
  | 56 => ⟨S1024x768, .f32⟩
  | 57 => ⟨S_, .i1⟩
  | 58 => ⟨S1024, .i1⟩
  | 59 => ⟨S_, .i32⟩
  | 60 => ⟨S800, .i32⟩
  | 61 => ⟨S800, .i1⟩
  | 62 => ⟨S_, .i32⟩
  | 63 => ⟨S800, .i32⟩
  | 64 => ⟨S800, .i32⟩
  | 65 => ⟨S800, .i32⟩
  | 66 => ⟨S800x1, .i32⟩
  | 67 => ⟨S_, .i1⟩
  | 68 => ⟨S800, .i1⟩
  | 69 => ⟨S1024, .i1⟩
  | 70 => ⟨S16, .i32⟩
  | 71 => ⟨S16x1x1, .i32⟩
  | 72 => ⟨S_, .i32⟩
  | 73 => ⟨S16x1x1, .i32⟩
  | 74 => ⟨S16x1x1, .i32⟩
  | 75 => ⟨S16x50x64, .i32⟩
  | 76 => ⟨S16x50x64, .i32⟩
  | 77 => ⟨S51200, .i32⟩
  | 78 => ⟨S_, .f32⟩
  | 79 => ⟨S1024x768, .f32⟩
  | 80 => ⟨S51200x768, .f32⟩
  | 81 => ⟨S_, .i32⟩
  | 82 => ⟨S51200, .i32⟩
  | 83 => ⟨S51200, .i1⟩
  | 84 => ⟨S_, .i32⟩
  | 85 => ⟨S51200, .i32⟩
  | 86 => ⟨S51200, .i32⟩
  | 87 => ⟨S51200, .i32⟩
  | 88 => ⟨S51200x1, .i32⟩
  | 89 => ⟨S1024x768, .f32⟩
  | 90 => ⟨S_, .f32⟩
  | 91 => ⟨S1024, .f32⟩
  | 92 => ⟨S51200, .f32⟩
  | 93 => ⟨S_, .i32⟩
  | 94 => ⟨S51200, .i32⟩
  | 95 => ⟨S51200, .i1⟩
  | 96 => ⟨S_, .i32⟩
  | 97 => ⟨S51200, .i32⟩
  | 98 => ⟨S51200, .i32⟩
  | 99 => ⟨S51200, .i32⟩
  | 100 => ⟨S51200x1, .i32⟩
  | 101 => ⟨S1024, .f32⟩
  | 102 => ⟨S_, .f32⟩
  | 103 => ⟨S1024, .f32⟩
  | 104 => ⟨S1024, .f32⟩
  | 105 => ⟨S1024x1, .f32⟩
  | 106 => ⟨S1024x768, .f32⟩
  | 107 => ⟨S1024x768, .f32⟩
  | 108 => ⟨S1024x1, .i1⟩
  | 109 => ⟨S1024x768, .i1⟩
  | 110 => ⟨S1024x768, .f32⟩
  | 111 => ⟨S16x64x768, .f32⟩
  | 112 => ⟨S_, .i32⟩
  | 113 => ⟨S1, .i32⟩
  | 114 => ⟨S_, .f32⟩
  | 115 => ⟨S16x768, .f32⟩
  | 116 => ⟨S16x64x768, .f32⟩
  | 117 => ⟨S16x64x768, .f32⟩
  | 118 => ⟨S1x1x768, .f32⟩
  | 119 => ⟨S16x64x768, .f32⟩
  | 120 => ⟨S16x64x768, .f32⟩
  | 121 => ⟨S_, .f32⟩
  | 122 => ⟨S16x64, .f32⟩
  | 123 => ⟨S16x64x1, .f32⟩
  | 124 => ⟨S_, .f32⟩
  | 125 => ⟨S16x64x1, .f32⟩
  | 126 => ⟨S16x64x1, .f32⟩
  | 127 => ⟨S16x64x768, .f32⟩
  | _ => ⟨S16x60x768, .f32⟩

abbrev hbmTy0_1 (i : Nat) : BufTy := match i % 128 with
  | 0 => ⟨S16x64x768, .f32⟩
  | 1 => ⟨S16x64x768, .f32⟩
  | 2 => ⟨S_, .f32⟩
  | 3 => ⟨S16x64, .f32⟩
  | 4 => ⟨S16x64x1, .f32⟩
  | 5 => ⟨S_, .f32⟩
  | 6 => ⟨S16x64x1, .f32⟩
  | 7 => ⟨S16x64x1, .f32⟩
  | 8 => ⟨S16x64x768, .f32⟩
  | 9 => ⟨S16x64x768, .f32⟩
  | 10 => ⟨S_, .f32⟩
  | 11 => ⟨S16x64x1, .f32⟩
  | 12 => ⟨S16x64x1, .f32⟩
  | 13 => ⟨S16x64x1, .f32⟩
  | 14 => ⟨S16x64x768, .f32⟩
  | 15 => ⟨S16x64x768, .f32⟩
  | 16 => ⟨S1x1x768, .f32⟩
  | 17 => ⟨S16x64x768, .f32⟩
  | 18 => ⟨S16x64x768, .f32⟩
  | 19 => ⟨S1x1x768, .f32⟩
  | 20 => ⟨S16x64x768, .f32⟩
  | 21 => ⟨S16x64x768, .f32⟩
  | 22 => ⟨S_, .i32⟩
  | 23 => ⟨S16x64, .i32⟩
  | 24 => ⟨S16x64, .i1⟩
  | 25 => ⟨S_, .i32⟩
  | 26 => ⟨S16x64, .i32⟩
  | 27 => ⟨S16x64, .i32⟩
  | 28 => ⟨S16x64, .i32⟩
  | 29 => ⟨S16x64x1, .i32⟩
  | 30 => ⟨S1, .i32⟩
  | 31 => ⟨S_, .i32⟩
  | 32 => ⟨S16x64x1, .i32⟩
  | 33 => ⟨S16x64x1, .i1⟩
  | 34 => ⟨S1x1x1, .i32⟩
  | 35 => ⟨S16x64x1, .i32⟩
  | 36 => ⟨S16x64x1, .i1⟩
  | 37 => ⟨S16x64x1, .i1⟩
  | 38 => ⟨S_, .i1⟩
  | 39 => ⟨S16x64, .i1⟩
  | 40 => ⟨S16x64x768, .f32⟩
  | 41 => ⟨S16x64x768, .i1⟩
  | 42 => ⟨S_, .f32⟩
  | 43 => ⟨S16x64x768, .f32⟩
  | 44 => ⟨S16x64x768, .f32⟩
  | 45 => ⟨S16x64x768, .f32⟩
  | 46 => ⟨S16x64x768, .f32⟩
  | _ => ⟨S16x60x768, .f32⟩

abbrev hbmTy (i : Nat) : BufTy := match i / 128 with
  | 0 => hbmTy0_0 i
  | 1 => hbmTy0_1 i
  | _ => ⟨S16x60x768, .f32⟩

abbrev bufTy : (tb : Table) → Fin (tcTables nBuf tb) → BufTy
  | .hbm, ⟨i, _⟩ => hbmTy i
  | _, _ => ⟨S16x60x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_0 : Ref sig .tc := ⟨.hbm, 36, rfl⟩
abbrev main_v19 : Ref sig .tc := ⟨.hbm, 37, rfl⟩
abbrev main_v20 : Ref sig .tc := ⟨.hbm, 38, rfl⟩
abbrev main_c_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_c_3 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_c_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call0_v0 : Ref sig .tc := ⟨.hbm, 109, rfl⟩
abbrev main_v75 : Ref sig .tc := ⟨.hbm, 110, rfl⟩
abbrev main_v76 : Ref sig .tc := ⟨.hbm, 111, rfl⟩
abbrev main_c_17 : Ref sig .tc := ⟨.hbm, 112, rfl⟩
abbrev main_v77 : Ref sig .tc := ⟨.hbm, 113, rfl⟩
abbrev main_cst_18 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_19 : Ref sig .tc := ⟨.hbm, 121, rfl⟩
abbrev main_v84 : Ref sig .tc := ⟨.hbm, 122, rfl⟩
abbrev main_v85 : Ref sig .tc := ⟨.hbm, 123, rfl⟩
abbrev main_cst_20 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_cst_22 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_23 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_call1_c : Ref sig .tc := ⟨.hbm, 150, rfl⟩
abbrev main_call1_v0 : Ref sig .tc := ⟨.hbm, 151, rfl⟩
abbrev main_call1_v1 : Ref sig .tc := ⟨.hbm, 152, rfl⟩
abbrev main_call1_c_0 : Ref sig .tc := ⟨.hbm, 153, rfl⟩
abbrev main_call1_v2 : Ref sig .tc := ⟨.hbm, 154, rfl⟩
abbrev main_call1_v3 : Ref sig .tc := ⟨.hbm, 155, rfl⟩
abbrev main_call1_v4 : Ref sig .tc := ⟨.hbm, 156, rfl⟩
abbrev main_call1_v5 : Ref sig .tc := ⟨.hbm, 157, rfl⟩
abbrev main_call1_c_1 : Ref sig .tc := ⟨.hbm, 158, rfl⟩
abbrev main_call1_c_2 : Ref sig .tc := ⟨.hbm, 159, rfl⟩
abbrev main_call1_v6 : Ref sig .tc := ⟨.hbm, 160, rfl⟩
abbrev main_call1_v7 : Ref sig .tc := ⟨.hbm, 161, rfl⟩
abbrev main_call1_v8 : Ref sig .tc := ⟨.hbm, 162, rfl⟩
abbrev main_call1_v9 : Ref sig .tc := ⟨.hbm, 163, rfl⟩
abbrev main_call1_v10 : Ref sig .tc := ⟨.hbm, 164, rfl⟩
abbrev main_call1_v11 : Ref sig .tc := ⟨.hbm, 165, rfl⟩
abbrev main_call1_c_3 : Ref sig .tc := ⟨.hbm, 166, rfl⟩
abbrev main_call1_v12 : Ref sig .tc := ⟨.hbm, 167, rfl⟩
abbrev main_call1_v13 : Ref sig .tc := ⟨.hbm, 168, rfl⟩
abbrev main_call1_v14 : Ref sig .tc := ⟨.hbm, 169, rfl⟩
abbrev main_call1_cst : Ref sig .tc := ⟨.hbm, 170, rfl⟩
abbrev main_call1_v15 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩

abbrev nD : Nat := 1
abbrev τ : Topo := Topo.v7x

variable {F : FTy → Type} [FloatOps F]
-- ==== Proof.Names.lean ====
module
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

/-! # What one chunk and one batch compute

The kernel streams the 51200 rows of the flattened views in 80 chunks of 640 rows, five chunks to a batch. This module names the
buffers it works on and the functions that it applies to a chunk and, after a batch's fifth chunk, to the batch's accumulators. The
program's body is unrolled four times; the functions of the four copies are the same, which is stated here once for each. -/

@[expose] public section
set_option maxRecDepth 16384
noncomputable section
namespace Cert.Agg
open Cert.KernelIdeal Cert.KernelIdeal.Gen
open Idealize.ShloMosaic Idealize.ShloMosaic.TcCoe
variable {F : FTy → Type} [FloatOps F]

/-- The flattened features, the mask and the candidate nodes, in HBM. -/
abbrev hbX : Memref sig .tc .hbm S51200x768 .f32 := Memref.whole main_call0_v0
abbrev hbM : Memref sig .tc .hbm S51200x1 .f32 := Memref.whole main_call0_v10
abbrev hbC : Memref sig .tc .hbm S51200x1 .i32 := Memref.whole main_call0_v11

/-- The scratch buffers: four chunks of features, of masks and of candidate nodes, and the three accumulators. -/
abbrev sc0 : Memref sig .tc .vmem S640x768 .f32 := Memref.whole cc0_scratch0
abbrev sc1 : Memref sig .tc .vmem S640x768 .f32 := Memref.whole cc0_scratch1
abbrev sc2 : Memref sig .tc .vmem S640x768 .f32 := Memref.whole cc0_scratch2
abbrev sc3 : Memref sig .tc .vmem S640x768 .f32 := Memref.whole cc0_scratch3
abbrev sc4 : Memref sig .tc .vmem S640x1 .f32 := Memref.whole cc0_scratch4
abbrev sc5 : Memref sig .tc .vmem S640x1 .f32 := Memref.whole cc0_scratch5
abbrev sc6 : Memref sig .tc .vmem S640x1 .f32 := Memref.whole cc0_scratch6
abbrev sc7 : Memref sig .tc .vmem S640x1 .f32 := Memref.whole cc0_scratch7
abbrev sc8 : Memref sig .tc .vmem S640x1 .i32 := Memref.whole cc0_scratch8
abbrev sc9 : Memref sig .tc .vmem S640x1 .i32 := Memref.whole cc0_scratch9
abbrev sc10 : Memref sig .tc .vmem S640x1 .i32 := Memref.whole cc0_scratch10
abbrev sc11 : Memref sig .tc .vmem S640x1 .i32 := Memref.whole cc0_scratch11
abbrev sc12 : Memref sig .tc .vmem S64x768 .f32 := Memref.whole cc0_scratch12
abbrev sc13 : Memref sig .tc .vmem S64x768 .f32 := Memref.whole cc0_scratch13
abbrev sc14 : Memref sig .tc .vmem S1x64 .f32 := Memref.whole cc0_scratch14

/-- The contents of a reference's buffer on device `c`. -/
abbrev HB (F : FTy → Type) (c : Dev nD) {sp : Space} {S : Shape} {e : EltTy} (M : Memref sig .tc sp S e) : Type :=
  Buf (Elt F) (M.view.loc (c : Thread nD τ))

/-! ## The functions of a chunk -/

/-- A chunk's share of the candidate sums. -/
def candPart (x : Vec F S640x768 .f32) (m : Vec F S640x1 .f32) (d : Vec F S640x1 .i32) : FVec F S64x768 .f32 := k0_pay22 x m d
/-- A chunk's share of the candidate counts. -/
def cntPart (m : Vec F S640x1 .f32) (d : Vec F S640x1 .i32) : FVec F S1x64 .f32 := k0_pay23 m d
/-- A chunk's share of the visited nodes' features: `w` is the chunk's place in its batch, `v` the batch's visited nodes. -/
def visPart (w : BitVec 32) (x : Vec F S640x768 .f32) (m : Vec F S640x1 .f32) (v : Vec F S64x1 .i32) : FVec F S64x768 .f32 :=
  k0_pay27 (k0_pay24 x m) (k0_pay25 v) (k0_pay26 w v)
/-- A stored accumulator (the printed program stores it under a cast to its own shape). -/
def keep (a : FVec F S64x768 .f32) : FVec F S64x768 .f32 := k0_pay28 a
def keepN (a : FVec F S1x64 .f32) : FVec F S1x64 .f32 := k0_pay30 a
def addTo (p : FVec F S64x768 .f32) (old : Vec F S64x768 .f32) : FVec F S64x768 .f32 := k0_pay31 p old
def addToN (p : FVec F S1x64 .f32) (old : Vec F S1x64 .f32) : FVec F S1x64 .f32 := k0_pay33 p old
/-- A batch's block of results, from its visited nodes and lengths, its three accumulators, and its step and position inputs. -/
def rowOf (v len : Vec F S64x1 .i32) (cand : Vec F S64x768 .f32) (cnt : Vec F S1x64 .f32) (vis : Vec F S64x768 .f32)
    (sid : Vec F S64x1 .i32) (table : Vec F S100x768 .f32) (pos : Vec F S64x8 .f32) (wpos : Vec F S8x768 .f32)
    (bpos gam bet : Vec F S1x768 .f32) : FVec F S64x768 .f32 :=
  k0_pay34 (k0_pay9 (k0_pay25 v) len cand cnt vis) (k0_pay10 sid table) (k0_pay11 pos wpos bpos gam) bet

section Copies
variable (x : Vec F S640x768 .f32) (m : Vec F S640x1 .f32) (d : Vec F S640x1 .i32) (w : BitVec 32) (v len : Vec F S64x1 .i32)
  (o : Vec F S64x768 .f32) (oN : Vec F S1x64 .f32) (p q r : FVec F S64x768 .f32) (pN : FVec F S1x64 .f32)
  (table : Vec F S100x768 .f32) (pos : Vec F S64x8 .f32) (wpos : Vec F S8x768 .f32) (b1 : Vec F S1x768 .f32) (gam : Vec F S1x768 .f32)
  (iv : IVec S64x1 32)
theorem cand0 : k0_pay22 x m d = candPart x m d := rfl
theorem cand1 : k0_pay36 x m d = candPart x m d := rfl
theorem cand2 : k0_pay49 x m d = candPart x m d := rfl
theorem cand3 : k0_pay63 x m d = candPart x m d := rfl
theorem cnt0 : k0_pay23 m d = cntPart m d := rfl
theorem cnt1 : k0_pay37 m d = cntPart m d := rfl
theorem cnt2 : k0_pay50 m d = cntPart m d := rfl
theorem cnt3 : k0_pay64 m d = cntPart m d := rfl
theorem keepA0 : k0_pay28 p = keep p := rfl
theorem keepA1 : k0_pay41 p = keep p := rfl
theorem keepA2 : k0_pay55 p = keep p := rfl
theorem keepA3 : k0_pay2 p = keep p := rfl
theorem keepN0 : k0_pay30 pN = keepN pN := rfl
theorem keepN1 : k0_pay43 pN = keepN pN := rfl
theorem keepN2 : k0_pay57 pN = keepN pN := rfl
theorem keepN3 : k0_pay4 pN = keepN pN := rfl
theorem addA0 : k0_pay31 p o = addTo p o := rfl
theorem addA1 : k0_pay44 p o = addTo p o := rfl
theorem addA2 : k0_pay58 p o = addTo p o := rfl
theorem addA3 : k0_pay5 p o = addTo p o := rfl
theorem addN0 : k0_pay33 pN oN = addToN pN oN := rfl
theorem addN1 : k0_pay46 pN oN = addToN pN oN := rfl
theorem addN2 : k0_pay60 pN oN = addToN pN oN := rfl
theorem addN3 : k0_pay7 pN oN = addToN pN oN := rfl
theorem keepV0 : k0_pay29 (k0_pay24 x m) (k0_pay25 v) (k0_pay26 w v) = keep (visPart w x m v) := rfl
theorem keepV1 : k0_pay42 w x (k0_pay38 m) v = keep (visPart w x m v) := rfl
theorem keepV2 : k0_pay56 w (k0_pay51 x m) (k0_pay52 v) = keep (visPart w x m v) := rfl
theorem keepV3 : k0_pay3 (k0_pay65 x m) (k0_pay67 w v) k0_pay68 k0_pay69 = keep (visPart w x m v) := rfl
theorem addV0 : k0_pay32 (k0_pay24 x m) (k0_pay25 v) (k0_pay26 w v) o = addTo (visPart w x m v) o := rfl
theorem addV1 : k0_pay45 (k0_pay40 w x (k0_pay38 m) v) o = addTo (visPart w x m v) o := rfl
theorem addV2 : k0_pay59 w (k0_pay51 x m) (k0_pay52 v) o = addTo (visPart w x m v) o := rfl
theorem addV3 : k0_pay6 (k0_pay65 x m) (k0_pay67 w v) k0_pay68 k0_pay69 o = addTo (visPart w x m v) o := rfl
theorem node1 : k0_pay39 v = k0_pay25 v := rfl
theorem node2 : k0_pay53 (k0_pay52 v) = k0_pay25 v := rfl
theorem node3 : k0_pay66 v = k0_pay25 v := rfl
theorem agg1 : k0_pay12 iv len o oN r = k0_pay9 iv len o oN r := rfl
theorem agg2 : k0_pay15 iv len o oN r = k0_pay9 iv len o oN r := rfl
theorem agg3 : k0_pay18 iv len o oN r = k0_pay9 iv len o oN r := rfl
theorem step1 : k0_pay13 len table = k0_pay10 len table := rfl
theorem step2 : k0_pay16 len table = k0_pay10 len table := rfl
theorem step3 : k0_pay19 len table = k0_pay10 len table := rfl
theorem posn1 : k0_pay14 pos wpos b1 gam = k0_pay11 pos wpos b1 gam := rfl
theorem posn2 : k0_pay17 pos wpos b1 gam = k0_pay11 pos wpos b1 gam := rfl
theorem posn3 : k0_pay20 pos wpos b1 gam = k0_pay11 pos wpos b1 gam := rfl
theorem rowp1 : k0_pay47 p q r b1 = k0_pay34 p q r b1 := rfl
theorem rowp2 : k0_pay61 p q r b1 = k0_pay34 p q r b1 := rfl
theorem rowp3 : k0_pay8 p q r b1 = k0_pay34 p q r b1 := rfl
end Copies
end Cert.Agg
end
-- ==== Proof.Stream.lean ====
module
public import proofs.«01_k».proof.Proof.Names

/-! # The stream of chunks

What the three accumulators hold before chunk `i`, and what a batch's block of results is after its fifth chunk, as functions of
what the chunks are. -/

@[expose] public section
set_option maxRecDepth 16384
noncomputable section
namespace Cert.Agg
open Cert.KernelIdeal Cert.KernelIdeal.Gen
open Idealize.ShloMosaic Idealize.ShloMosaic.TcCoe
variable {F : FTy → Type} [FloatOps F]

/-- What the kernel reads: at each chunk its features, mask and candidate nodes and its batch's rows of the small inputs, and the
inputs that all batches share. -/
structure Inputs (F : FTy → Type) where
  x : ℕ → Vec F S640x768 .f32
  m : ℕ → Vec F S640x1 .f32
  d : ℕ → Vec F S640x1 .i32
  len : ℕ → Vec F S64x1 .i32
  v : ℕ → Vec F S64x1 .i32
  sid : ℕ → Vec F S64x1 .i32
  pos : ℕ → Vec F S64x8 .f32
  wpos : Vec F S8x768 .f32
  bpos : Vec F S1x768 .f32
  gam : Vec F S1x768 .f32
  bet : Vec F S1x768 .f32
  table : Vec F S100x768 .f32

variable (D : Inputs F)

/-- The candidate sums before chunk `i`: a batch's first chunk replaces them, the others add. -/
def candAt (a : Vec F S64x768 .f32) : ℕ → Vec F S64x768 .f32
  | 0 => a
  | i + 1 => if i % 5 = 0 then keep (candPart (D.x i) (D.m i) (D.d i)) else addTo (candPart (D.x i) (D.m i) (D.d i)) (candAt a i)
/-- The visited nodes' features before chunk `i`. -/
def visAt (a : Vec F S64x768 .f32) : ℕ → Vec F S64x768 .f32
  | 0 => a
  | i + 1 => if i % 5 = 0 then keep (visPart (BitVec.ofNat 32 (i % 5)) (D.x i) (D.m i) (D.v i))
      else addTo (visPart (BitVec.ofNat 32 (i % 5)) (D.x i) (D.m i) (D.v i)) (visAt a i)
/-- The candidate counts before chunk `i`. -/
def cntAt (a : Vec F S1x64 .f32) : ℕ → Vec F S1x64 .f32
  | 0 => a
  | i + 1 => if i % 5 = 0 then keepN (cntPart (D.m i) (D.d i)) else addToN (cntPart (D.m i) (D.d i)) (cntAt a i)

section
variable {D} {i : ℕ} {a : Vec F S64x768 .f32} {n : Vec F S1x64 .f32}
theorem cand_first (h : i % 5 = 0) : candAt D a (i + 1) = keep (candPart (D.x i) (D.m i) (D.d i)) := if_pos h
theorem cand_more (h : i % 5 ≠ 0) : candAt D a (i + 1) = addTo (candPart (D.x i) (D.m i) (D.d i)) (candAt D a i) := if_neg h
theorem vis_first (h : i % 5 = 0) : visAt D a (i + 1) = keep (visPart (BitVec.ofNat 32 (i % 5)) (D.x i) (D.m i) (D.v i)) := if_pos h
theorem vis_more (h : i % 5 ≠ 0) :
    visAt D a (i + 1) = addTo (visPart (BitVec.ofNat 32 (i % 5)) (D.x i) (D.m i) (D.v i)) (visAt D a i) := if_neg h
theorem cnt_first (h : i % 5 = 0) : cntAt D n (i + 1) = keepN (cntPart (D.m i) (D.d i)) := if_pos h
theorem cnt_more (h : i % 5 ≠ 0) : cntAt D n (i + 1) = addToN (cntPart (D.m i) (D.d i)) (cntAt D n i) := if_neg h
end

/-- The block of results stored at chunk `i`, the last of its batch. -/
def rowAt (a b : Vec F S64x768 .f32) (n : Vec F S1x64 .f32) (i : ℕ) : FVec F S64x768 .f32 :=
  rowOf (D.v i) (D.len i) (candAt D a (i + 1)) (cntAt D n (i + 1)) (visAt D b (i + 1)) (D.sid i) D.table (D.pos i) D.wpos D.bpos
    D.gam D.bet
end Cert.Agg
end
-- ==== Proof.Flight.lean ====
module
public import proofs.«01_k».proof.Proof.Stream
public import Idealize.ShloMosaic.Lib.VecWindow

/-! # The copies in flight, and what the loop holds before a trip

Twelve copies are in flight before each trip but after the last: the features, mask and candidate nodes of the next four chunks. -/

@[expose] public section
set_option maxRecDepth 16384
noncomputable section
namespace Cert.Agg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- The rows of a chunk, in each of the three arrays that are streamed. -/
abbrev xs (off : Fin 2 → Nat) (h : ∀ a, off a + S640x768.size a ≤ S51200x768.size a) : Memref sig .tc .hbm S640x768 .f32 :=
  hbX.slice (Rect.unit (s := S51200x768) off S640x768.size h) (fun _ => rfl)
abbrev ms (off : Fin 2 → Nat) (h : ∀ a, off a + S640x1.size a ≤ S51200x1.size a) : Memref sig .tc .hbm S640x1 .f32 :=
  hbM.slice (Rect.unit (s := S51200x1) off S640x1.size h) (fun _ => rfl)
abbrev cs (off : Fin 2 → Nat) (h : ∀ a, off a + S640x1.size a ≤ S51200x1.size a) : Memref sig .tc .hbm S640x1 .i32 :=
  hbC.slice (Rect.unit (s := S51200x1) off S640x1.size h) (fun _ => rfl)

/-- Where chunk `i` begins. -/
def xo (i : ℕ) : Fin 2 → Nat := ![640 * (i % 80), 0]
theorem xo_inb (i : ℕ) : ∀ a, xo i a + S640x768.size a ≤ S51200x768.size a := by
  intro a; fin_cases a
  · show 640 * (i % 80) + 640 ≤ 51200; omega
  · show 0 + 768 ≤ 768; omega
theorem xo_inb1 (i : ℕ) : ∀ a, xo i a + S640x1.size a ≤ S51200x1.size a := by
  intro a; fin_cases a
  · show 640 * (i % 80) + 640 ≤ 51200; omega
  · show 0 + 1 ≤ 1; omega
/-- Where the rows of chunk `i`'s batch begin in the arrays of 64 rows to a batch. -/
def bo (i : ℕ) : Fin 2 → Nat := ![64 * (i % 80 / 5), 0]
theorem bo_inb (i w : ℕ) : ∀ a, bo i a + (⟨2, ![64, w]⟩ : Shape).size a ≤ (⟨2, ![1024, w]⟩ : Shape).size a := by
  intro a; fin_cases a
  · show 64 * (i % 80 / 5) + 64 ≤ 1024; omega
  · show 0 + w ≤ w; omega

/-- A copy of a chunk's features in flight to the buffer `dst`, and what is left of the share of the array that it reads. -/
abbrev xfl (c : Dev nD) (dst : Memref sig .tc .vmem S640x768 .f32) (s : Fin 22) (fx : HB F c hbX) (off : Fin 2 → Nat)
    (h : ∀ a, off a + S640x768.size a ≤ S51200x768.size a) (g : HB F c dst) : sProp 𝕄 :=
  iprop(Transfers.Flight countersEmb (c : Thread nD τ) (SemLoc.dma s) () 61440
    iprop((dst.view.loc (c : Thread nD τ) ↦{fullShare} dst.view.writes (Elt F) g
        [⟨Rect.whole S640x768, ReadAs.same.apply ((xs off h).view.read (Elt F) fx)⟩])
      ∗ (hbX.view.loc (c : Thread nD τ) ↦[(xs off h).view.set]{Transfers.shareTok fullShare 22 s} fx))
   ∗ (hbX.view.loc (c : Thread nD τ) ↦[Finset.univ \ (xs off h).view.set]{Transfers.shareTok fullShare 22 s} fx))
/-- A copy of a chunk's mask in flight. -/
abbrev mfl (c : Dev nD) (dst : Memref sig .tc .vmem S640x1 .f32) (s : Fin 22) (fm : HB F c hbM) (off : Fin 2 → Nat)
    (h : ∀ a, off a + S640x1.size a ≤ S51200x1.size a) (g : HB F c dst) : sProp 𝕄 :=
  iprop(Transfers.Flight countersEmb (c : Thread nD τ) (SemLoc.dma s) () 10240
    iprop((dst.view.loc (c : Thread nD τ) ↦{fullShare} dst.view.writes (Elt F) g
        [⟨Rect.whole S640x1, ReadAs.same.apply ((ms off h).view.read (Elt F) fm)⟩])
      ∗ (hbM.view.loc (c : Thread nD τ) ↦[(ms off h).view.set]{Transfers.shareTok fullShare 22 s} fm))
   ∗ (hbM.view.loc (c : Thread nD τ) ↦[Finset.univ \ (ms off h).view.set]{Transfers.shareTok fullShare 22 s} fm))
/-- A copy of a chunk's candidate nodes in flight. -/
abbrev cfl (c : Dev nD) (dst : Memref sig .tc .vmem S640x1 .i32) (s : Fin 22) (fc : HB F c hbC) (off : Fin 2 → Nat)
    (h : ∀ a, off a + S640x1.size a ≤ S51200x1.size a) (g : HB F c dst) : sProp 𝕄 :=
  iprop(Transfers.Flight countersEmb (c : Thread nD τ) (SemLoc.dma s) () 10240
    iprop((dst.view.loc (c : Thread nD τ) ↦{fullShare} dst.view.writes (Elt F) g
        [⟨Rect.whole S640x1, ReadAs.same.apply ((cs off h).view.read (Elt F) fc)⟩])
      ∗ (hbC.view.loc (c : Thread nD τ) ↦[(cs off h).view.set]{Transfers.shareTok fullShare 22 s} fc))
   ∗ (hbC.view.loc (c : Thread nD τ) ↦[Finset.univ \ (cs off h).view.set]{Transfers.shareTok fullShare 22 s} fc))

section Respell
variable (c : Dev nD) (fx : HB F c hbX) (fm : HB F c hbM) (fc : HB F c hbC) {off off' : Fin 2 → Nat} (s : Fin 22)
/-- A flight is known by the numbers of its offset, however the offset is spelled. -/
theorem xfl_at (dst : Memref sig .tc .vmem S640x768 .f32) (g : HB F c dst) (h) (h') (e : off = off') :
    xfl c dst s fx off h g = xfl c dst s fx off' h' g := by subst e; rfl
theorem mfl_at (dst : Memref sig .tc .vmem S640x1 .f32) (g : HB F c dst) (h) (h') (e : off = off') :
    mfl c dst s fm off h g = mfl c dst s fm off' h' g := by subst e; rfl
theorem cfl_at (dst : Memref sig .tc .vmem S640x1 .i32) (g : HB F c dst) (h) (h') (e : off = off') :
    cfl c dst s fc off h g = cfl c dst s fc off' h' g := by subst e; rfl

/-- A flight just started over a buffer that held whatever a chunk left there. -/
theorem xfl_intro (dst : Memref sig .tc .vmem S640x768 .f32) (g : HB F c dst) (h) (h') (e : off = off') :
    iprop(Transfers.Flight countersEmb (c : Thread nD τ) (SemLoc.dma s) () 61440
      iprop((dst.view.loc (c : Thread nD τ) ↦{fullShare} View.write (Elt F) dst.view g
          (ReadAs.same.apply ((xs off h).view.read (Elt F) fx)) Finset.univ)
        ∗ (hbX.view.loc (c : Thread nD τ) ↦[(xs off h).view.set]{Transfers.shareTok fullShare 22 s} fx))
     ∗ (hbX.view.loc (c : Thread nD τ) ↦[Finset.univ \ (xs off h).view.set]{Transfers.shareTok fullShare 22 s} fx))
    ⊢ (∃ g, xfl c dst s fx off' h' g : sProp 𝕄) := by
  subst e
  rw [show View.write (Elt F) dst.view g (ReadAs.same.apply ((xs off h).view.read (Elt F) fx)) Finset.univ
    = dst.view.writes (Elt F) g [⟨Rect.whole S640x768, ReadAs.same.apply ((xs off h).view.read (Elt F) fx)⟩] from
      View.write_univ_eq_writes_whole dst.view g [] _]
  iintro H; iexists g; iexact H
theorem mfl_intro (dst : Memref sig .tc .vmem S640x1 .f32) (g : HB F c dst) (h) (h') (e : off = off') :
    iprop(Transfers.Flight countersEmb (c : Thread nD τ) (SemLoc.dma s) () 10240
      iprop((dst.view.loc (c : Thread nD τ) ↦{fullShare} View.write (Elt F) dst.view g
          (ReadAs.same.apply ((ms off h).view.read (Elt F) fm)) Finset.univ)
        ∗ (hbM.view.loc (c : Thread nD τ) ↦[(ms off h).view.set]{Transfers.shareTok fullShare 22 s} fm))
     ∗ (hbM.view.loc (c : Thread nD τ) ↦[Finset.univ \ (ms off h).view.set]{Transfers.shareTok fullShare 22 s} fm))
    ⊢ (∃ g, mfl c dst s fm off' h' g : sProp 𝕄) := by
  subst e
  rw [show View.write (Elt F) dst.view g (ReadAs.same.apply ((ms off h).view.read (Elt F) fm)) Finset.univ
    = dst.view.writes (Elt F) g [⟨Rect.whole S640x1, ReadAs.same.apply ((ms off h).view.read (Elt F) fm)⟩] from
      View.write_univ_eq_writes_whole dst.view g [] _]
  iintro H; iexists g; iexact H
theorem cfl_intro (dst : Memref sig .tc .vmem S640x1 .i32) (g : HB F c dst) (h) (h') (e : off = off') :
    iprop(Transfers.Flight countersEmb (c : Thread nD τ) (SemLoc.dma s) () 10240
      iprop((dst.view.loc (c : Thread nD τ) ↦{fullShare} View.write (Elt F) dst.view g
          (ReadAs.same.apply ((cs off h).view.read (Elt F) fc)) Finset.univ)
        ∗ (hbC.view.loc (c : Thread nD τ) ↦[(cs off h).view.set]{Transfers.shareTok fullShare 22 s} fc))
     ∗ (hbC.view.loc (c : Thread nD τ) ↦[Finset.univ \ (cs off h).view.set]{Transfers.shareTok fullShare 22 s} fc))
    ⊢ (∃ g, cfl c dst s fc off' h' g : sProp 𝕄) := by
  subst e
  rw [show View.write (Elt F) dst.view g (ReadAs.same.apply ((cs off h).view.read (Elt F) fc)) Finset.univ
    = dst.view.writes (Elt F) g [⟨Rect.whole S640x1, ReadAs.same.apply ((cs off h).view.read (Elt F) fc)⟩] from
      View.write_univ_eq_writes_whole dst.view g [] _]
  iintro H; iexists g; iexact H
end Respell

/-- The rectangles of the whole accumulators. -/
abbrev RC : Rect S64x768 := Rect.unit (s := S64x768) ![0, 0] S64x768.size inb_S64x768_S64x768_0_0
abbrev RN : Rect S1x64 := Rect.unit (s := S1x64) ![0, 0] S1x64.size inb_S1x64_S1x64_0_0

/-- An accumulator whose last store was `v`. -/
theorem acc_intro (c : Dev nD) (dst : Memref sig .tc .vmem S64x768 .f32) (g : HB F c dst) (v v' : Vec F S64x768 .f32)
    (L : List (View.Piece (Elt F) S64x768 .f32)) (e : v = v') :
    (dst.view.loc (c : Thread nD τ) ↦{fullShare} dst.view.writes (Elt F) g (⟨RC, v⟩ :: L) : sProp 𝕄)
    ⊢ (∃ g', dst.view.loc (c : Thread nD τ) ↦{fullShare} dst.view.writes (Elt F) g' [⟨RC, v'⟩] : sProp 𝕄) := by
  subst e
  iintro H; iexists (dst.view.writes (Elt F) g L); iexact H
theorem accN_intro (c : Dev nD) (dst : Memref sig .tc .vmem S1x64 .f32) (g : HB F c dst) (v v' : Vec F S1x64 .f32)
    (L : List (View.Piece (Elt F) S1x64 .f32)) (e : v = v') :
    (dst.view.loc (c : Thread nD τ) ↦{fullShare} dst.view.writes (Elt F) g (⟨RN, v⟩ :: L) : sProp 𝕄)
    ⊢ (∃ g', dst.view.loc (c : Thread nD τ) ↦{fullShare} dst.view.writes (Elt F) g' [⟨RN, v'⟩] : sProp 𝕄) := by
  subst e
  iintro H; iexists (dst.view.writes (Elt F) g L); iexact H

/-- What a load of a whole buffer reads after a copy into it. -/
theorem load_x (v : View sig .tc .vmem S640x768 .f32) (w : Vec F S640x768 .f32) (h) :
    Eq (α := Vec F S640x768 .f32)
      (v.readCov (Val := Elt F) [⟨Rect.whole S640x768, w⟩] (Rect.unit (s := S640x768) ![0, 0] ![640, 768] h).toLoadRect) w := by
  unfold View.readCov
  exact (View.readAt_full _ _ _).trans (View.read_writes_whole _ _ _)
theorem load_m (v : View sig .tc .vmem S640x1 .f32) (w : Vec F S640x1 .f32) (h) :
    Eq (α := Vec F S640x1 .f32)
      (v.readCov (Val := Elt F) [⟨Rect.whole S640x1, w⟩] (Rect.unit (s := S640x1) ![0, 0] ![640, 1] h).toLoadRect) w := by
  unfold View.readCov
  exact (View.readAt_full _ _ _).trans (View.read_writes_whole _ _ _)
theorem load_d (v : View sig .tc .vmem S640x1 .i32) (w : Vec F S640x1 .i32) (h) :
    Eq (α := Vec F S640x1 .i32)
      (v.readCov (Val := Elt F) [⟨Rect.whole S640x1, w⟩] (Rect.unit (s := S640x1) ![0, 0] ![640, 1] h).toLoadRect) w := by
  unfold View.readCov
  exact (View.readAt_full _ _ _).trans (View.read_writes_whole _ _ _)

section Inp
variable (c : Dev nD) (fx : HB F c hbX) (fm : HB F c hbM) (fc : HB F c hbC)
  (arg3 arg4 arg5 : Memref sig .tc .vmem S1024x1 .i32) (arg6 : Memref sig .tc .vmem S1024x8 .f32)
  (arg7 : Memref sig .tc .vmem S8x768 .f32) (arg8 arg9 arg10 : Memref sig .tc .vmem S1x768 .f32)
  (arg11 : Memref sig .tc .vmem S100x768 .f32)
  (a3 : HB F c arg3) (a4 : HB F c arg4) (a5 : HB F c arg5) (a6 : HB F c arg6) (a7 : HB F c arg7) (a8 : HB F c arg8)
  (a9 : HB F c arg9) (a10 : HB F c arg10) (a11 : HB F c arg11)
/-- What the kernel reads, from the contents of its buffers. -/
def inOf : Inputs F where
  x i := ReadAs.same.apply ((xs (xo i) (xo_inb i)).view.read (Elt F) fx)
  m i := ReadAs.same.apply ((ms (xo i) (xo_inb1 i)).view.read (Elt F) fm)
  d i := ReadAs.same.apply ((cs (xo i) (xo_inb1 i)).view.read (Elt F) fc)
  len i := arg3.view.readAt (Elt F) (Rect.unit (s := S1024x1) (bo i) S64x1.size (bo_inb i 1)).toLoadRect a3
  v i := arg4.view.readAt (Elt F) (Rect.unit (s := S1024x1) (bo i) S64x1.size (bo_inb i 1)).toLoadRect a4
  sid i := arg5.view.readAt (Elt F) (Rect.unit (s := S1024x1) (bo i) S64x1.size (bo_inb i 1)).toLoadRect a5
  pos i := arg6.view.readAt (Elt F) (Rect.unit (s := S1024x8) (bo i) S64x8.size (bo_inb i 8)).toLoadRect a6
  wpos := arg7.view.readAt (Elt F) (Rect.unit (s := S8x768) ![0, 0] S8x768.size inb_S8x768_S8x768_0_0).toLoadRect a7
  bpos := arg8.view.readAt (Elt F) (Rect.unit (s := S1x768) ![0, 0] S1x768.size inb_S1x768_S1x768_0_0).toLoadRect a8
  gam := arg9.view.readAt (Elt F) (Rect.unit (s := S1x768) ![0, 0] S1x768.size inb_S1x768_S1x768_0_0).toLoadRect a9
  bet := arg10.view.readAt (Elt F) (Rect.unit (s := S1x768) ![0, 0] S1x768.size inb_S1x768_S1x768_0_0).toLoadRect a10
  table := arg11.view.readAt (Elt F) (Rect.unit (s := S100x768) ![0, 0] S100x768.size inb_S100x768_S100x768_0_0).toLoadRect a11
local notation "𝔇" => inOf c fx fm fc arg3 arg4 arg5 arg6 arg7 arg8 arg9 arg10 arg11 a3 a4 a5 a6 a7 a8 a9 a10 a11
variable (i : ℕ) (off : Fin 2 → ℕ)
theorem x_at (h) (e : off = xo i) : ReadAs.same.apply ((xs off h).view.read (Elt F) fx) = (𝔇).x i := by subst e; rfl
theorem m_at (h) (e : off = xo i) : ReadAs.same.apply ((ms off h).view.read (Elt F) fm) = (𝔇).m i := by subst e; rfl
theorem d_at (h) (e : off = xo i) : ReadAs.same.apply ((cs off h).view.read (Elt F) fc) = (𝔇).d i := by subst e; rfl
theorem len_at (h) (e : off = bo i) :
    arg3.view.readAt (Elt F) (Rect.unit (s := S1024x1) off S64x1.size h).toLoadRect a3 = (𝔇).len i := by subst e; rfl
theorem v_at (h) (e : off = bo i) :
    arg4.view.readAt (Elt F) (Rect.unit (s := S1024x1) off S64x1.size h).toLoadRect a4 = (𝔇).v i := by subst e; rfl
theorem sid_at (h) (e : off = bo i) :
    arg5.view.readAt (Elt F) (Rect.unit (s := S1024x1) off S64x1.size h).toLoadRect a5 = (𝔇).sid i := by subst e; rfl
theorem pos_at (h) (e : off = bo i) :
    arg6.view.readAt (Elt F) (Rect.unit (s := S1024x8) off S64x8.size h).toLoadRect a6 = (𝔇).pos i := by subst e; rfl
end Inp

/-- The result buffer before chunk `i`: the last chunk of a batch stores the batch's block. -/
def outAt (D : Inputs F) (a b : Vec F S64x768 .f32) (n : Vec F S1x64 .f32) {c : Dev nD} {arg12 : Memref sig .tc .vmem S1024x768 .f32}
    (o : HB F c arg12) : ℕ → HB F c arg12
  | 0 => o
  | i + 1 => if i % 5 = 4 then arg12.view.writes (Elt F) (outAt D a b n o i)
      [⟨Rect.unit (s := S1024x768) (bo i) S64x768.size (bo_inb i 768), rowAt D a b n i⟩] else outAt D a b n o i
theorem out_last {D : Inputs F} {a b : Vec F S64x768 .f32} {n : Vec F S1x64 .f32} {c : Dev nD}
    {arg12 : Memref sig .tc .vmem S1024x768 .f32} {o : HB F c arg12} {i : ℕ} (h : i % 5 = 4) (off : Fin 2 → ℕ) (h') (e : off = bo i) :
    outAt D a b n o (i + 1) = arg12.view.writes (Elt F) (outAt D a b n o i)
      [⟨Rect.unit (s := S1024x768) off S64x768.size h', rowAt D a b n i⟩] := by subst e; exact if_pos h
theorem out_other {D : Inputs F} {a b : Vec F S64x768 .f32} {n : Vec F S1x64 .f32} {c : Dev nD}
    {arg12 : Memref sig .tc .vmem S1024x768 .f32} {o : HB F c arg12} {i : ℕ} (h : i % 5 ≠ 4) :
    outAt D a b n o (i + 1) = outAt D a b n o i := if_neg h
end Cert.Agg
end
-- ==== Proof.State.lean ====
module
public import proofs.«01_k».proof.Proof.Flight
public import Idealize.ShloMosaic.Lib.Tactic

/-! # What the loop holds between trips

The offsets that the program computes in words, as the places of the chunks; and the assertion that holds before each trip. -/

@[expose] public section
set_option maxRecDepth 16384
noncomputable section
namespace Cert.Agg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-! ## Offsets -/
theorem trips_eq : k0_t1_loop.trips = 20 := by decide +kernel
theorem off1_xo : ∀ (k : Fin k0_t1_loop.trips) (u : Fin 4), k0_off1 k (BitVec.ofNat 32 u.val) = xo (4 * k.val + u.val) := by decide +kernel
theorem off2_xo : ∀ (k : Fin k0_t1_loop.trips) (u : Fin 4), k0_off2 k (BitVec.ofNat 32 u.val) = xo (4 * k.val + u.val) := by decide +kernel
theorem off3_bo : ∀ (k : Fin k0_t1_loop.trips) (u : Fin 4), k0_off3 k (BitVec.ofNat 32 u.val) = bo (4 * k.val + u.val) := by decide +kernel
theorem off4_bo : ∀ k : Fin k0_t1_loop.trips, k0_off4 k = bo (4 * k.val + 0) := by decide +kernel
theorem off5_bo : ∀ k : Fin k0_t1_loop.trips, k0_off5 k = bo (4 * k.val + 0) := by decide +kernel
theorem off6_bo : ∀ k : Fin k0_t1_loop.trips, k0_off6 k = bo (4 * k.val + 0) := by decide +kernel
theorem off9_bo : ∀ k : Fin k0_t1_loop.trips, k0_off9 k = bo (4 * k.val + 1) := by decide +kernel
theorem off10_bo : ∀ k : Fin k0_t1_loop.trips, k0_off10 k = bo (4 * k.val + 1) := by decide +kernel
theorem off11_bo : ∀ k : Fin k0_t1_loop.trips, k0_off11 k = bo (4 * k.val + 1) := by decide +kernel
theorem off14_bo : ∀ k : Fin k0_t1_loop.trips, k0_off14 k = bo (4 * k.val + 2) := by decide +kernel
theorem off15_bo : ∀ k : Fin k0_t1_loop.trips, k0_off15 k = bo (4 * k.val + 2) := by decide +kernel
theorem off16_bo : ∀ k : Fin k0_t1_loop.trips, k0_off16 k = bo (4 * k.val + 2) := by decide +kernel
theorem off19_bo : ∀ k : Fin k0_t1_loop.trips, k0_off19 k = bo (4 * k.val + 3) := by decide +kernel
theorem off20_bo : ∀ k : Fin k0_t1_loop.trips, k0_off20 k = bo (4 * k.val + 3) := by decide +kernel
theorem off21_bo : ∀ k : Fin k0_t1_loop.trips, k0_off21 k = bo (4 * k.val + 3) := by decide +kernel
theorem off7_xo : ∀ k : Fin k0_t1_loop.trips, k.val < 19 → k0_off7 k = xo (4 * (k.val + 1) + 0) := by decide +kernel
theorem off8_xo : ∀ k : Fin k0_t1_loop.trips, k.val < 19 → k0_off8 k = xo (4 * (k.val + 1) + 0) := by decide +kernel
theorem off12_xo : ∀ k : Fin k0_t1_loop.trips, k.val < 19 → k0_off12 k = xo (4 * (k.val + 1) + 1) := by decide +kernel
theorem off13_xo : ∀ k : Fin k0_t1_loop.trips, k.val < 19 → k0_off13 k = xo (4 * (k.val + 1) + 1) := by decide +kernel
theorem off17_xo : ∀ k : Fin k0_t1_loop.trips, k.val < 19 → k0_off17 k = xo (4 * (k.val + 1) + 2) := by decide +kernel
theorem off18_xo : ∀ k : Fin k0_t1_loop.trips, k.val < 19 → k0_off18 k = xo (4 * (k.val + 1) + 2) := by decide +kernel
theorem off22_xo : ∀ k : Fin k0_t1_loop.trips, k.val < 19 → k0_off22 k = xo (4 * (k.val + 1) + 3) := by decide +kernel
theorem off23_xo : ∀ k : Fin k0_t1_loop.trips, k.val < 19 → k0_off23 k = xo (4 * (k.val + 1) + 3) := by decide +kernel

/-- A chunk's place in its batch, as the program computes it. -/
theorem place : ∀ (k : Fin k0_t1_loop.trips) (u : Fin 4),
    Scalar.select (0#1)
      (Scalar.addi (Scalar.remsi (Scalar.addi (Scalar.muli (Scf.iv 0#32 1#32 k.val) 4#32) (BitVec.ofNat 32 u.val)) 5#32) 5#32)
      (Scalar.remsi (Scalar.addi (Scalar.muli (Scf.iv 0#32 1#32 k.val) 4#32) (BitVec.ofNat 32 u.val)) 5#32)
    = BitVec.ofNat 32 ((4 * k.val + u.val) % 5) := by decide +kernel

section
variable (c : Dev nD) (fx : HB F c hbX) (fm : HB F c hbM) (fc : HB F c hbC)
/-- The twelve copies in flight, of four chunks that begin at `o` (of the features) and `p` (of the masks and candidate nodes). -/
def flightsAt (o p : Fin 4 → Fin 2 → ℕ) (h : ∀ u a, o u a + S640x768.size a ≤ S51200x768.size a)
    (h' : ∀ u a, p u a + S640x1.size a ≤ S51200x1.size a) : sProp 𝕄 :=
  iprop((∃ g, xfl c sc0 10 fx (o 0) (h 0) g)
    ∗ (∃ g, xfl c sc1 11 fx (o 1) (h 1) g)
    ∗ (∃ g, xfl c sc2 12 fx (o 2) (h 2) g)
    ∗ (∃ g, xfl c sc3 13 fx (o 3) (h 3) g)
    ∗ (∃ g, mfl c sc4 14 fm (p 0) (h' 0) g)
    ∗ (∃ g, mfl c sc5 15 fm (p 1) (h' 1) g)
    ∗ (∃ g, mfl c sc6 16 fm (p 2) (h' 2) g)
    ∗ (∃ g, mfl c sc7 17 fm (p 3) (h' 3) g)
    ∗ (∃ g, cfl c sc8 18 fc (p 0) (h' 0) g)
    ∗ (∃ g, cfl c sc9 19 fc (p 1) (h' 1) g)
    ∗ (∃ g, cfl c sc10 20 fc (p 2) (h' 2) g)
    ∗ (∃ g, cfl c sc11 21 fc (p 3) (h' 3) g))
theorem flightsAt_congr {o p o' p'} (h) (h') (k) (k') (e : o = o') (e' : p = p') :
    flightsAt c fx fm fc o p h h' = flightsAt c fx fm fc o' p' k k' := by subst e; subst e'; rfl
/-- The copies in flight when chunk `i` is the next. -/
def flights (i : ℕ) : sProp 𝕄 :=
  flightsAt c fx fm fc (fun u => xo (i + u.val)) (fun u => xo (i + u.val)) (fun u => xo_inb _) (fun u => xo_inb1 _)
/-- No copy in flight: the buffers, the shares of the three arrays and the semaphores at rest. -/
def idle : sProp 𝕄 :=
  iprop(((∃ g, sc0.view.loc (c : Thread nD τ) ↦{fullShare} g)
      ∗ (hbX.view.loc (c : Thread nD τ) ↦{Transfers.shareTok fullShare 22 10} fx) ∗ semVal ((c : Thread nD τ), SemLoc.dma 10) 0)
    ∗ ((∃ g, sc1.view.loc (c : Thread nD τ) ↦{fullShare} g)
      ∗ (hbX.view.loc (c : Thread nD τ) ↦{Transfers.shareTok fullShare 22 11} fx) ∗ semVal ((c : Thread nD τ), SemLoc.dma 11) 0)
    ∗ ((∃ g, sc2.view.loc (c : Thread nD τ) ↦{fullShare} g)
      ∗ (hbX.view.loc (c : Thread nD τ) ↦{Transfers.shareTok fullShare 22 12} fx) ∗ semVal ((c : Thread nD τ), SemLoc.dma 12) 0)
    ∗ ((∃ g, sc3.view.loc (c : Thread nD τ) ↦{fullShare} g)
      ∗ (hbX.view.loc (c : Thread nD τ) ↦{Transfers.shareTok fullShare 22 13} fx) ∗ semVal ((c : Thread nD τ), SemLoc.dma 13) 0)
    ∗ ((∃ g, sc4.view.loc (c : Thread nD τ) ↦{fullShare} g)
      ∗ (hbM.view.loc (c : Thread nD τ) ↦{Transfers.shareTok fullShare 22 14} fm) ∗ semVal ((c : Thread nD τ), SemLoc.dma 14) 0)
    ∗ ((∃ g, sc5.view.loc (c : Thread nD τ) ↦{fullShare} g)
      ∗ (hbM.view.loc (c : Thread nD τ) ↦{Transfers.shareTok fullShare 22 15} fm) ∗ semVal ((c : Thread nD τ), SemLoc.dma 15) 0)
    ∗ ((∃ g, sc6.view.loc (c : Thread nD τ) ↦{fullShare} g)
      ∗ (hbM.view.loc (c : Thread nD τ) ↦{Transfers.shareTok fullShare 22 16} fm) ∗ semVal ((c : Thread nD τ), SemLoc.dma 16) 0)
    ∗ ((∃ g, sc7.view.loc (c : Thread nD τ) ↦{fullShare} g)
      ∗ (hbM.view.loc (c : Thread nD τ) ↦{Transfers.shareTok fullShare 22 17} fm) ∗ semVal ((c : Thread nD τ), SemLoc.dma 17) 0)
    ∗ ((∃ g, sc8.view.loc (c : Thread nD τ) ↦{fullShare} g)
      ∗ (hbC.view.loc (c : Thread nD τ) ↦{Transfers.shareTok fullShare 22 18} fc) ∗ semVal ((c : Thread nD τ), SemLoc.dma 18) 0)
    ∗ ((∃ g, sc9.view.loc (c : Thread nD τ) ↦{fullShare} g)
      ∗ (hbC.view.loc (c : Thread nD τ) ↦{Transfers.shareTok fullShare 22 19} fc) ∗ semVal ((c : Thread nD τ), SemLoc.dma 19) 0)
    ∗ ((∃ g, sc10.view.loc (c : Thread nD τ) ↦{fullShare} g)
      ∗ (hbC.view.loc (c : Thread nD τ) ↦{Transfers.shareTok fullShare 22 20} fc) ∗ semVal ((c : Thread nD τ), SemLoc.dma 20) 0)
    ∗ ((∃ g, sc11.view.loc (c : Thread nD τ) ↦{fullShare} g)
      ∗ (hbC.view.loc (c : Thread nD τ) ↦{Transfers.shareTok fullShare 22 21} fc) ∗ semVal ((c : Thread nD τ), SemLoc.dma 21) 0))
variable (arg3 : Memref sig .tc .vmem S1024x1 .i32) (arg4 : Memref sig .tc .vmem S1024x1 .i32) (arg5 : Memref sig .tc .vmem S1024x1 .i32) (arg6 : Memref sig .tc .vmem S1024x8 .f32) (arg7 : Memref sig .tc .vmem S8x768 .f32) (arg8 : Memref sig .tc .vmem S1x768 .f32) (arg9 : Memref sig .tc .vmem S1x768 .f32) (arg10 : Memref sig .tc .vmem S1x768 .f32) (arg11 : Memref sig .tc .vmem S100x768 .f32) (arg12 : Memref sig .tc .vmem S1024x768 .f32)
  (a3 : HB F c arg3) (a4 : HB F c arg4) (a5 : HB F c arg5) (a6 : HB F c arg6) (a7 : HB F c arg7) (a8 : HB F c arg8) (a9 : HB F c arg9) (a10 : HB F c arg10) (a11 : HB F c arg11) (o : HB F c arg12)
  (v12 v13 : Vec F S64x768 .f32) (v14 : Vec F S1x64 .f32)
local notation "𝔇" => inOf c fx fm fc arg3 arg4 arg5 arg6 arg7 arg8 arg9 arg10 arg11 a3 a4 a5 a6 a7 a8 a9 a10 a11
/-- What the body holds besides the copies when chunk `i` is the next: the inputs, the result buffer, the accumulators, and the waits
that it has done. -/
def rest (i : ℕ) : sProp 𝕄 :=
  iprop((arg3.view.loc (c : Thread nD τ) ↦[arg3.view.set]{fullShare} a3)
    ∗ (arg4.view.loc (c : Thread nD τ) ↦[arg4.view.set]{fullShare} a4)
    ∗ (arg5.view.loc (c : Thread nD τ) ↦[arg5.view.set]{fullShare} a5)
    ∗ (arg6.view.loc (c : Thread nD τ) ↦[arg6.view.set]{fullShare} a6)
    ∗ (arg7.view.loc (c : Thread nD τ) ↦[arg7.view.set]{fullShare} a7)
    ∗ (arg8.view.loc (c : Thread nD τ) ↦[arg8.view.set]{fullShare} a8)
    ∗ (arg9.view.loc (c : Thread nD τ) ↦[arg9.view.set]{fullShare} a9)
    ∗ (arg10.view.loc (c : Thread nD τ) ↦[arg10.view.set]{fullShare} a10)
    ∗ (arg11.view.loc (c : Thread nD τ) ↦[arg11.view.set]{fullShare} a11)
    ∗ (arg12.view.loc (c : Thread nD τ) ↦[arg12.view.set]{fullShare} outAt 𝔇 v12 v13 v14 o i)
    ∗ (∃ g, sc12.view.loc (c : Thread nD τ) ↦{fullShare} sc12.view.writes (Elt F) g [⟨RC, candAt 𝔇 v12 i⟩])
    ∗ (∃ g, sc13.view.loc (c : Thread nD τ) ↦{fullShare} sc13.view.writes (Elt F) g [⟨RC, visAt 𝔇 v13 i⟩])
    ∗ (∃ g, sc14.view.loc (c : Thread nD τ) ↦{fullShare} sc14.view.writes (Elt F) g [⟨RN, cntAt 𝔇 v14 i⟩])
    ∗ (∃ W, owes (c : Thread nD τ) 0 W))
end
end Cert.Agg
end
-- ==== Proof.Trip.lean ====
module
public import proofs.«01_k».proof.Proof.State

/-! # One trip

A trip waits for the copies of four chunks, adds the chunks to the accumulators, stores a batch's block of results after its fifth
chunk, and starts the copies of the next four chunks, but for the last trip. Which of the four chunks begins and which ends a batch
depends on the trip modulo five. -/

@[expose] public section
set_option maxRecDepth 16384
noncomputable section
namespace Cert.Agg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- An accumulator whose last store is `v`. -/
theorem acc_of (c : Dev nD) (dst : Memref sig .tc .vmem S64x768 .f32) (g : HB F c dst) (L : List (View.Piece (Elt F) S64x768 .f32))
    (v : Vec F S64x768 .f32) (e : L.head? = some ⟨RC, v⟩) :
    (dst.view.loc (c : Thread nD τ) ↦{fullShare} dst.view.writes (Elt F) g L : sProp 𝕄)
    ⊢ (∃ g', dst.view.loc (c : Thread nD τ) ↦{fullShare} dst.view.writes (Elt F) g' [⟨RC, v⟩] : sProp 𝕄) := by
  cases L with
  | nil => cases e
  | cons p L =>
    obtain rfl : p = ⟨RC, v⟩ := Option.some.inj e
    iintro H; iexists (dst.view.writes (Elt F) g L); iexact H
theorem accN_of (c : Dev nD) (dst : Memref sig .tc .vmem S1x64 .f32) (g : HB F c dst) (L : List (View.Piece (Elt F) S1x64 .f32))
    (v : Vec F S1x64 .f32) (e : L.head? = some ⟨RN, v⟩) :
    (dst.view.loc (c : Thread nD τ) ↦{fullShare} dst.view.writes (Elt F) g L : sProp 𝕄)
    ⊢ (∃ g', dst.view.loc (c : Thread nD τ) ↦{fullShare} dst.view.writes (Elt F) g' [⟨RN, v⟩] : sProp 𝕄) := by
  cases L with
  | nil => cases e
  | cons p L =>
    obtain rfl : p = ⟨RN, v⟩ := Option.some.inj e
    iintro H; iexists (dst.view.writes (Elt F) g L); iexact H
theorem owned_congr (c : Dev nD) (dst : Memref sig .tc .vmem S1024x768 .f32) (f f' : HB F c dst) (e : f = f') :
    (dst.view.loc (c : Thread nD τ) ↦[dst.view.set]{fullShare} f : sProp 𝕄)
    ⊢ (dst.view.loc (c : Thread nD τ) ↦[dst.view.set]{fullShare} f' : sProp 𝕄) := by subst e; exact .rfl
/-- A store into the result buffer is known by its offset's numbers and what it stores. -/
theorem stored_congr {c : Dev nD} {dst : Memref sig .tc .vmem S1024x768 .f32} (f : HB F c dst) {off off' : Fin 2 → ℕ} (h) (h')
    {w w' : Vec F S64x768 .f32} (e : off = off') (ew : w = w') :
    dst.view.writes (Elt F) f [⟨Rect.unit (s := S1024x768) off S64x768.size h, w⟩]
      = dst.view.writes (Elt F) f [⟨Rect.unit (s := S1024x768) off' S64x768.size h', w'⟩] := by subst e; subst ew; rfl
theorem off6_bo' (k : Fin k0_t1_loop.trips) : k0_off6 k = bo (4 * k.val) := off6_bo k

set_option maxHeartbeats 16000000 in
/-- A trip takes what is held before it to what is held before the next. -/
theorem trip (c : Dev nD) (arg3 : Memref sig .tc .vmem S1024x1 .i32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1024x8 .f32) (harg6 : arg6.IsWhole) (arg7 : Memref sig .tc .vmem S8x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S100x768 .f32) (harg11 : arg11.IsWhole) (arg12 : Memref sig .tc .vmem S1024x768 .f32) (harg12 : arg12.IsWhole) (fx : HB F c hbX) (fm : HB F c hbM) (fc : HB F c hbC)
    (a3 : HB F c arg3) (a4 : HB F c arg4) (a5 : HB F c arg5) (a6 : HB F c arg6) (a7 : HB F c arg7) (a8 : HB F c arg8) (a9 : HB F c arg9) (a10 : HB F c arg10) (a11 : HB F c arg11) (o : HB F c arg12) (v12 v13 : Vec F S64x768 .f32) (v14 : Vec F S1x64 .f32)
    (k : Fin k0_t1_loop.trips) :
    iprop(iprop((∃ g, xfl c sc0 10 fx (k0_off1 k 0#32) (k0_off1_inb k 0) g)
      ∗ (∃ g, xfl c sc1 11 fx (k0_off1 k 1#32) (k0_off1_inb k 1) g)
      ∗ (∃ g, xfl c sc2 12 fx (k0_off1 k 2#32) (k0_off1_inb k 2) g)
      ∗ (∃ g, xfl c sc3 13 fx (k0_off1 k 3#32) (k0_off1_inb k 3) g)
      ∗ (∃ g, mfl c sc4 14 fm (k0_off2 k 0#32) (k0_off2_inb k 0) g)
      ∗ (∃ g, mfl c sc5 15 fm (k0_off2 k 1#32) (k0_off2_inb k 1) g)
      ∗ (∃ g, mfl c sc6 16 fm (k0_off2 k 2#32) (k0_off2_inb k 2) g)
      ∗ (∃ g, mfl c sc7 17 fm (k0_off2 k 3#32) (k0_off2_inb k 3) g)
      ∗ (∃ g, cfl c sc8 18 fc (k0_off2 k 0#32) (k0_off2_inb k 0) g)
      ∗ (∃ g, cfl c sc9 19 fc (k0_off2 k 1#32) (k0_off2_inb k 1) g)
      ∗ (∃ g, cfl c sc10 20 fc (k0_off2 k 2#32) (k0_off2_inb k 2) g)
      ∗ (∃ g, cfl c sc11 21 fc (k0_off2 k 3#32) (k0_off2_inb k 3) g)) ∗ rest c fx fm fc arg3 arg4 arg5 arg6 arg7 arg8 arg9 arg10 arg11 arg12 a3 a4 a5 a6 a7 a8 a9 a10 a11 o v12 v13 v14 (4 * k.val))
    ⊢ wp frame (wpE (defs₀ (F := F)) Variants.none c none) Set.univ (k0_t1_body (F := F) hbX (Memref.isWhole_whole _) hbM (Memref.isWhole_whole _) hbC (Memref.isWhole_whole _) arg3 harg3 arg4 harg4 arg5 harg5 arg6 harg6 arg7 harg7 arg8 harg8 arg9 harg9 arg10 harg10 arg11 harg11 arg12 harg12 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) cc0_scratch15 cc0_scratch16 cc0_scratch17 cc0_scratch18 cc0_scratch19 cc0_scratch20 cc0_scratch21 cc0_scratch22 cc0_scratch23 cc0_scratch24 cc0_scratch25 cc0_scratch26 k ()) fun _ =>
      iprop(rest c fx fm fc arg3 arg4 arg5 arg6 arg7 arg8 arg9 arg10 arg11 arg12 a3 a4 a5 a6 a7 a8 a9 a10 a11 o v12 v13 v14 (4 * k.val + 4) ∗ if k.val + 1 < 20 then flights c fx fm fc (4 * (k.val + 1)) else idle c fx fm fc) := by
  unfold Gen.k0_t1_body rest
  generalize hcand : candAt _ v12 (4 * k.val) = w12
  generalize hvis : visAt _ v13 (4 * k.val) = w13
  generalize hcnt : cntAt _ v14 (4 * k.val) = w14
  generalize hout : outAt _ v12 v13 v14 o (4 * k.val) = w15
  iintro ⟨⟨⟨%g0, XF0, XR0⟩, ⟨%g1, XF1, XR1⟩, ⟨%g2, XF2, XR2⟩, ⟨%g3, XF3, XR3⟩, ⟨%g4, MF0, MR0⟩, ⟨%g5, MF1, MR1⟩, ⟨%g6, MF2, MR2⟩, ⟨%g7, MF3, MR3⟩, ⟨%g8, CF0, CR0⟩, ⟨%g9, CF1, CR1⟩, ⟨%g10, CF2, CR2⟩, ⟨%g11, CF3, CR3⟩⟩, A3, A4, A5, A6, A7, A8, A9, A10, A11, A12, ⟨%g12, B12⟩, ⟨%g13, B13⟩, ⟨%g14, B14⟩, ⟨%W, HW⟩⟩
  have cases : (k.val < 19 ∧ k.val % 5 = 0) ∨ (k.val < 19 ∧ k.val % 5 = 1) ∨ (k.val < 19 ∧ k.val % 5 = 2) ∨ (k.val < 19 ∧ k.val % 5 = 3)
      ∨ (k.val < 19 ∧ k.val % 5 = 4) ∨ (k.val = 19 ∧ k.val % 5 = 4) := by
    have := Nat.lt_of_lt_of_eq k.isLt trips_eq; omega
  rcases cases with ⟨hk, hr⟩ | ⟨hk, hr⟩ | ⟨hk, hr⟩ | ⟨hk, hr⟩ | ⟨hk, hr⟩ | ⟨hk, hr⟩
  all_goals
    sl_exec (disch := first | (clear * - hk hr; revert k; decide +kernel))
    sl_step
    have e0 : (4 * k.val) % 5 = (4 * (k.val % 5)) % 5 := by omega
    have e1 : (4 * k.val + 1) % 5 = (4 * (k.val % 5) + 1) % 5 := by omega
    have e2 : (4 * k.val + 2) % 5 = (4 * (k.val % 5) + 2) % 5 := by omega
    have e3 : (4 * k.val + 3) % 5 = (4 * (k.val % 5) + 3) % 5 := by omega
    simp only [hr, Nat.reduceMul, Nat.reduceAdd, Nat.reduceMod, Nat.add_zero] at e0 e1 e2 e3
    have hx0 := x_at c fx fm fc arg3 arg4 arg5 arg6 arg7 arg8 arg9 arg10 arg11 a3 a4 a5 a6 a7 a8 a9 a10 a11 (4 * k.val) (k0_off1 k 0#32) (k0_off1_inb k 0) (off1_xo k 0)
    have hm0 := m_at c fx fm fc arg3 arg4 arg5 arg6 arg7 arg8 arg9 arg10 arg11 a3 a4 a5 a6 a7 a8 a9 a10 a11 (4 * k.val) (k0_off2 k 0#32) (k0_off2_inb k 0) (off2_xo k 0)
    have hd0 := d_at c fx fm fc arg3 arg4 arg5 arg6 arg7 arg8 arg9 arg10 arg11 a3 a4 a5 a6 a7 a8 a9 a10 a11 (4 * k.val) (k0_off2 k 0#32) (k0_off2_inb k 0) (off2_xo k 0)
    have hv0 := v_at c fx fm fc arg3 arg4 arg5 arg6 arg7 arg8 arg9 arg10 arg11 a3 a4 a5 a6 a7 a8 a9 a10 a11 (4 * k.val) (k0_off3 k 0#32) (k0_off3_inb k 0) (off3_bo k 0)
    have hw0 : Scalar.select (0#1)
        (Scalar.addi (Scalar.remsi (Scalar.addi (Scalar.muli (Scf.iv 0#32 1#32 k.val) 4#32) 0#32) 5#32) 5#32)
        (Scalar.remsi (Scalar.addi (Scalar.muli (Scf.iv 0#32 1#32 k.val) 4#32) 0#32) 5#32)
      = BitVec.ofNat 32 ((4 * k.val) % 5) := place k 0
    have hx1 := x_at c fx fm fc arg3 arg4 arg5 arg6 arg7 arg8 arg9 arg10 arg11 a3 a4 a5 a6 a7 a8 a9 a10 a11 (4 * k.val + 1) (k0_off1 k 1#32) (k0_off1_inb k 1) (off1_xo k 1)
    have hm1 := m_at c fx fm fc arg3 arg4 arg5 arg6 arg7 arg8 arg9 arg10 arg11 a3 a4 a5 a6 a7 a8 a9 a10 a11 (4 * k.val + 1) (k0_off2 k 1#32) (k0_off2_inb k 1) (off2_xo k 1)
    have hd1 := d_at c fx fm fc arg3 arg4 arg5 arg6 arg7 arg8 arg9 arg10 arg11 a3 a4 a5 a6 a7 a8 a9 a10 a11 (4 * k.val + 1) (k0_off2 k 1#32) (k0_off2_inb k 1) (off2_xo k 1)
    have hv1 := v_at c fx fm fc arg3 arg4 arg5 arg6 arg7 arg8 arg9 arg10 arg11 a3 a4 a5 a6 a7 a8 a9 a10 a11 (4 * k.val + 1) (k0_off3 k 1#32) (k0_off3_inb k 1) (off3_bo k 1)
    have hw1 : Scalar.select (0#1)
        (Scalar.addi (Scalar.remsi (Scalar.addi (Scalar.muli (Scf.iv 0#32 1#32 k.val) 4#32) 1#32) 5#32) 5#32)
        (Scalar.remsi (Scalar.addi (Scalar.muli (Scf.iv 0#32 1#32 k.val) 4#32) 1#32) 5#32)
      = BitVec.ofNat 32 ((4 * k.val + 1) % 5) := place k 1
    have hx2 := x_at c fx fm fc arg3 arg4 arg5 arg6 arg7 arg8 arg9 arg10 arg11 a3 a4 a5 a6 a7 a8 a9 a10 a11 (4 * k.val + 2) (k0_off1 k 2#32) (k0_off1_inb k 2) (off1_xo k 2)
    have hm2 := m_at c fx fm fc arg3 arg4 arg5 arg6 arg7 arg8 arg9 arg10 arg11 a3 a4 a5 a6 a7 a8 a9 a10 a11 (4 * k.val + 2) (k0_off2 k 2#32) (k0_off2_inb k 2) (off2_xo k 2)
    have hd2 := d_at c fx fm fc arg3 arg4 arg5 arg6 arg7 arg8 arg9 arg10 arg11 a3 a4 a5 a6 a7 a8 a9 a10 a11 (4 * k.val + 2) (k0_off2 k 2#32) (k0_off2_inb k 2) (off2_xo k 2)
    have hv2 := v_at c fx fm fc arg3 arg4 arg5 arg6 arg7 arg8 arg9 arg10 arg11 a3 a4 a5 a6 a7 a8 a9 a10 a11 (4 * k.val + 2) (k0_off3 k 2#32) (k0_off3_inb k 2) (off3_bo k 2)
    have hw2 : Scalar.select (0#1)
        (Scalar.addi (Scalar.remsi (Scalar.addi (Scalar.muli (Scf.iv 0#32 1#32 k.val) 4#32) 2#32) 5#32) 5#32)
        (Scalar.remsi (Scalar.addi (Scalar.muli (Scf.iv 0#32 1#32 k.val) 4#32) 2#32) 5#32)
      = BitVec.ofNat 32 ((4 * k.val + 2) % 5) := place k 2
    have hx3 := x_at c fx fm fc arg3 arg4 arg5 arg6 arg7 arg8 arg9 arg10 arg11 a3 a4 a5 a6 a7 a8 a9 a10 a11 (4 * k.val + 3) (k0_off1 k 3#32) (k0_off1_inb k 3) (off1_xo k 3)
    have hm3 := m_at c fx fm fc arg3 arg4 arg5 arg6 arg7 arg8 arg9 arg10 arg11 a3 a4 a5 a6 a7 a8 a9 a10 a11 (4 * k.val + 3) (k0_off2 k 3#32) (k0_off2_inb k 3) (off2_xo k 3)
    have hd3 := d_at c fx fm fc arg3 arg4 arg5 arg6 arg7 arg8 arg9 arg10 arg11 a3 a4 a5 a6 a7 a8 a9 a10 a11 (4 * k.val + 3) (k0_off2 k 3#32) (k0_off2_inb k 3) (off2_xo k 3)
    have hv3 := v_at c fx fm fc arg3 arg4 arg5 arg6 arg7 arg8 arg9 arg10 arg11 a3 a4 a5 a6 a7 a8 a9 a10 a11 (4 * k.val + 3) (k0_off3 k 3#32) (k0_off3_inb k 3) (off3_bo k 3)
    have hw3 : Scalar.select (0#1)
        (Scalar.addi (Scalar.remsi (Scalar.addi (Scalar.muli (Scf.iv 0#32 1#32 k.val) 4#32) 3#32) 5#32) 5#32)
        (Scalar.remsi (Scalar.addi (Scalar.muli (Scf.iv 0#32 1#32 k.val) 4#32) 3#32) 5#32)
      = BitVec.ofNat 32 ((4 * k.val + 3) % 5) := place k 3
    have hl0 := fun h => len_at c fx fm fc arg3 arg4 arg5 arg6 arg7 arg8 arg9 arg10 arg11 a3 a4 a5 a6 a7 a8 a9 a10 a11 (4 * k.val) (k0_off4 k) h (off4_bo k)
    have hs0 := fun h => sid_at c fx fm fc arg3 arg4 arg5 arg6 arg7 arg8 arg9 arg10 arg11 a3 a4 a5 a6 a7 a8 a9 a10 a11 (4 * k.val) (k0_off4 k) h (off4_bo k)
    have hp0 := fun h => pos_at c fx fm fc arg3 arg4 arg5 arg6 arg7 arg8 arg9 arg10 arg11 a3 a4 a5 a6 a7 a8 a9 a10 a11 (4 * k.val) (k0_off5 k) h (off5_bo k)
    have hl1 := fun h => len_at c fx fm fc arg3 arg4 arg5 arg6 arg7 arg8 arg9 arg10 arg11 a3 a4 a5 a6 a7 a8 a9 a10 a11 (4 * k.val + 1) (k0_off9 k) h (off9_bo k)
    have hs1 := fun h => sid_at c fx fm fc arg3 arg4 arg5 arg6 arg7 arg8 arg9 arg10 arg11 a3 a4 a5 a6 a7 a8 a9 a10 a11 (4 * k.val + 1) (k0_off9 k) h (off9_bo k)
    have hp1 := fun h => pos_at c fx fm fc arg3 arg4 arg5 arg6 arg7 arg8 arg9 arg10 arg11 a3 a4 a5 a6 a7 a8 a9 a10 a11 (4 * k.val + 1) (k0_off10 k) h (off10_bo k)
    have hl2 := fun h => len_at c fx fm fc arg3 arg4 arg5 arg6 arg7 arg8 arg9 arg10 arg11 a3 a4 a5 a6 a7 a8 a9 a10 a11 (4 * k.val + 2) (k0_off14 k) h (off14_bo k)
    have hs2 := fun h => sid_at c fx fm fc arg3 arg4 arg5 arg6 arg7 arg8 arg9 arg10 arg11 a3 a4 a5 a6 a7 a8 a9 a10 a11 (4 * k.val + 2) (k0_off14 k) h (off14_bo k)
    have hp2 := fun h => pos_at c fx fm fc arg3 arg4 arg5 arg6 arg7 arg8 arg9 arg10 arg11 a3 a4 a5 a6 a7 a8 a9 a10 a11 (4 * k.val + 2) (k0_off15 k) h (off15_bo k)
    have hl3 := fun h => len_at c fx fm fc arg3 arg4 arg5 arg6 arg7 arg8 arg9 arg10 arg11 a3 a4 a5 a6 a7 a8 a9 a10 a11 (4 * k.val + 3) (k0_off19 k) h (off19_bo k)
    have hs3 := fun h => sid_at c fx fm fc arg3 arg4 arg5 arg6 arg7 arg8 arg9 arg10 arg11 a3 a4 a5 a6 a7 a8 a9 a10 a11 (4 * k.val + 3) (k0_off19 k) h (off19_bo k)
    have hp3 := fun h => pos_at c fx fm fc arg3 arg4 arg5 arg6 arg7 arg8 arg9 arg10 arg11 a3 a4 a5 a6 a7 a8 a9 a10 a11 (4 * k.val + 3) (k0_off20 k) h (off20_bo k)
    isplitl [A3 A4 A5 A6 A7 A8 A9 A10 A11 A12 B12 B13 B14 HW]
    · isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]
      · iapply (owned_congr c arg12 _ _ ?_) $$ A12
        simp only [outAt, e0, e1, e2, e3, hout, reduceIte, reduceCtorEq, OfNat.ofNat_ne_zero, Nat.reduceEqDiff]
        all_goals with_reducible first
          | refine stored_congr _ _ _ (off6_bo' k) ?_
          | refine stored_congr _ _ _ (off11_bo k) ?_
          | refine stored_congr _ _ _ (off16_bo k) ?_
          | refine stored_congr _ _ _ (off21_bo k) ?_
        all_goals
          sl_unfold_run_names; sl_unfold_run_names
          simp only [List.head?_cons, ReadAs.apply, load_x, load_m, load_d, View.readCov_cons_toLoadRect, cand0, cand1, cand2, cand3, cnt0, cnt1, cnt2, cnt3, keepA0, keepA1, keepA2, keepA3, keepN0, keepN1, keepN2, keepN3, addA0, addA1, addA2, addA3, addN0, addN1, addN2, addN3, keepV0, keepV1, keepV2, keepV3, addV0, addV1, addV2, addV3, node1, node2, node3, agg1, agg2, agg3, step1, step2, step3, posn1, posn2, posn3, rowp1, rowp2, rowp3,
        hx0, hx1, hx2, hx3, hm0, hm1, hm2, hm3, hd0, hd1, hd2, hd3, hv0, hv1, hv2, hv3, hw0, hw1, hw2, hw3, hl0, hl1, hl2, hl3, hs0, hs1, hs2, hs3, hp0, hp1, hp2, hp3, candAt, visAt, cntAt, outAt, rowAt, rowOf, hcand, hvis, hcnt, hout, e0, e1, e2, e3, reduceIte, reduceCtorEq, Nat.reduceEqDiff, OfNat.ofNat_ne_zero, one_ne_zero]
          rfl
      isplitl [B12]
      · iapply (acc_of c sc12 _ _ _ ?_) $$ B12
        sl_unfold_run_names; sl_unfold_run_names
        simp only [List.head?_cons, ReadAs.apply, load_x, load_m, load_d, View.readCov_cons_toLoadRect, cand0, cand1, cand2, cand3, cnt0, cnt1, cnt2, cnt3, keepA0, keepA1, keepA2, keepA3, keepN0, keepN1, keepN2, keepN3, addA0, addA1, addA2, addA3, addN0, addN1, addN2, addN3, keepV0, keepV1, keepV2, keepV3, addV0, addV1, addV2, addV3, node1, node2, node3, agg1, agg2, agg3, step1, step2, step3, posn1, posn2, posn3, rowp1, rowp2, rowp3,
        hx0, hx1, hx2, hx3, hm0, hm1, hm2, hm3, hd0, hd1, hd2, hd3, hv0, hv1, hv2, hv3, hw0, hw1, hw2, hw3, hl0, hl1, hl2, hl3, hs0, hs1, hs2, hs3, hp0, hp1, hp2, hp3, candAt, visAt, cntAt, outAt, rowAt, rowOf, hcand, hvis, hcnt, hout, e0, e1, e2, e3, reduceIte, reduceCtorEq, Nat.reduceEqDiff, OfNat.ofNat_ne_zero, one_ne_zero]
        all_goals with_reducible rfl
      isplitl [B13]
      · iapply (acc_of c sc13 _ _ _ ?_) $$ B13
        sl_unfold_run_names; sl_unfold_run_names
        simp only [List.head?_cons, ReadAs.apply, load_x, load_m, load_d, View.readCov_cons_toLoadRect, cand0, cand1, cand2, cand3, cnt0, cnt1, cnt2, cnt3, keepA0, keepA1, keepA2, keepA3, keepN0, keepN1, keepN2, keepN3, addA0, addA1, addA2, addA3, addN0, addN1, addN2, addN3, keepV0, keepV1, keepV2, keepV3, addV0, addV1, addV2, addV3, node1, node2, node3, agg1, agg2, agg3, step1, step2, step3, posn1, posn2, posn3, rowp1, rowp2, rowp3,
        hx0, hx1, hx2, hx3, hm0, hm1, hm2, hm3, hd0, hd1, hd2, hd3, hv0, hv1, hv2, hv3, hw0, hw1, hw2, hw3, hl0, hl1, hl2, hl3, hs0, hs1, hs2, hs3, hp0, hp1, hp2, hp3, candAt, visAt, cntAt, outAt, rowAt, rowOf, hcand, hvis, hcnt, hout, e0, e1, e2, e3, reduceIte, reduceCtorEq, Nat.reduceEqDiff, OfNat.ofNat_ne_zero, one_ne_zero]
        all_goals with_reducible rfl
      isplitl [B14]
      · iapply (accN_of c sc14 _ _ _ ?_) $$ B14
        sl_unfold_run_names; sl_unfold_run_names
        simp only [List.head?_cons, ReadAs.apply, load_x, load_m, load_d, View.readCov_cons_toLoadRect, cand0, cand1, cand2, cand3, cnt0, cnt1, cnt2, cnt3, keepA0, keepA1, keepA2, keepA3, keepN0, keepN1, keepN2, keepN3, addA0, addA1, addA2, addA3, addN0, addN1, addN2, addN3, keepV0, keepV1, keepV2, keepV3, addV0, addV1, addV2, addV3, node1, node2, node3, agg1, agg2, agg3, step1, step2, step3, posn1, posn2, posn3, rowp1, rowp2, rowp3,
        hx0, hx1, hx2, hx3, hm0, hm1, hm2, hm3, hd0, hd1, hd2, hd3, hv0, hv1, hv2, hv3, hw0, hw1, hw2, hw3, hl0, hl1, hl2, hl3, hs0, hs1, hs2, hs3, hp0, hp1, hp2, hp3, candAt, visAt, cntAt, outAt, rowAt, rowOf, hcand, hvis, hcnt, hout, e0, e1, e2, e3, reduceIte, reduceCtorEq, Nat.reduceEqDiff, OfNat.ofNat_ne_zero, one_ne_zero]
        all_goals with_reducible rfl
      iexists _; iexact HW
    first
      | (rw [if_pos (show k.val + 1 < 20 by omega)]
         unfold flights flightsAt
         isplitl [XF0 XR0]
         · iapply (xfl_intro c fx 10 sc0 _ _ _ (off7_xo k hk))
           isplitl [XF0]; · iexact XF0
           iexact XR0
         isplitl [XF1 XR1]
         · iapply (xfl_intro c fx 11 sc1 _ _ _ (off12_xo k hk))
           isplitl [XF1]; · iexact XF1
           iexact XR1
         isplitl [XF2 XR2]
         · iapply (xfl_intro c fx 12 sc2 _ _ _ (off17_xo k hk))
           isplitl [XF2]; · iexact XF2
           iexact XR2
         isplitl [XF3 XR3]
         · iapply (xfl_intro c fx 13 sc3 _ _ _ (off22_xo k hk))
           isplitl [XF3]; · iexact XF3
           iexact XR3
         isplitl [MF0 MR0]
         · iapply (mfl_intro c fm 14 sc4 _ _ _ (off8_xo k hk))
           isplitl [MF0]; · iexact MF0
           iexact MR0
         isplitl [MF1 MR1]
         · iapply (mfl_intro c fm 15 sc5 _ _ _ (off13_xo k hk))
           isplitl [MF1]; · iexact MF1
           iexact MR1
         isplitl [MF2 MR2]
         · iapply (mfl_intro c fm 16 sc6 _ _ _ (off18_xo k hk))
           isplitl [MF2]; · iexact MF2
           iexact MR2
         isplitl [MF3 MR3]
         · iapply (mfl_intro c fm 17 sc7 _ _ _ (off23_xo k hk))
           isplitl [MF3]; · iexact MF3
           iexact MR3
         isplitl [CF0 CR0]
         · iapply (cfl_intro c fc 18 sc8 _ _ _ (off8_xo k hk))
           isplitl [CF0]; · iexact CF0
           iexact CR0
         isplitl [CF1 CR1]
         · iapply (cfl_intro c fc 19 sc9 _ _ _ (off13_xo k hk))
           isplitl [CF1]; · iexact CF1
           iexact CR1
         isplitl [CF2 CR2]
         · iapply (cfl_intro c fc 20 sc10 _ _ _ (off18_xo k hk))
           isplitl [CF2]; · iexact CF2
           iexact CR2
         · iapply (cfl_intro c fc 21 sc11 _ _ _ (off23_xo k hk))
           isplitl [CF3]; · iexact CF3
           iexact CR3)
      | (rw [if_neg (by omega)]
         unfold idle
         isplitl [XF0 XR0 XF0_dst]
         · isplitl [XF0_dst]; · iexists _; iexact XF0_dst
           isplitl [XR0]; · iexact XR0
           iexact XF0
         isplitl [XF1 XR1 XF1_dst]
         · isplitl [XF1_dst]; · iexists _; iexact XF1_dst
           isplitl [XR1]; · iexact XR1
           iexact XF1
         isplitl [XF2 XR2 XF2_dst]
         · isplitl [XF2_dst]; · iexists _; iexact XF2_dst
           isplitl [XR2]; · iexact XR2
           iexact XF2
         isplitl [XF3 XR3 XF3_dst]
         · isplitl [XF3_dst]; · iexists _; iexact XF3_dst
           isplitl [XR3]; · iexact XR3
           iexact XF3
         isplitl [MF0 MR0 MF0_dst]
         · isplitl [MF0_dst]; · iexists _; iexact MF0_dst
           isplitl [MR0]; · iexact MR0
           iexact MF0
         isplitl [MF1 MR1 MF1_dst]
         · isplitl [MF1_dst]; · iexists _; iexact MF1_dst
           isplitl [MR1]; · iexact MR1
           iexact MF1
         isplitl [MF2 MR2 MF2_dst]
         · isplitl [MF2_dst]; · iexists _; iexact MF2_dst
           isplitl [MR2]; · iexact MR2
           iexact MF2
         isplitl [MF3 MR3 MF3_dst]
         · isplitl [MF3_dst]; · iexists _; iexact MF3_dst
           isplitl [MR3]; · iexact MR3
           iexact MF3
         isplitl [CF0 CR0 CF0_dst]
         · isplitl [CF0_dst]; · iexists _; iexact CF0_dst
           isplitl [CR0]; · iexact CR0
           iexact CF0
         isplitl [CF1 CR1 CF1_dst]
         · isplitl [CF1_dst]; · iexists _; iexact CF1_dst
           isplitl [CR1]; · iexact CR1
           iexact CF1
         isplitl [CF2 CR2 CF2_dst]
         · isplitl [CF2_dst]; · iexists _; iexact CF2_dst
           isplitl [CR2]; · iexact CR2
           iexact CF2
         · isplitl [CF3_dst]; · iexists _; iexact CF3_dst
           isplitl [CR3]; · iexact CR3
           iexact CF3)
end Cert.Agg
end
-- ==== Proof.Body.lean ====
module
public import proofs.«01_k».proof.Proof.Trip

/-! # The body

The body starts the copies of the first four chunks and runs the twenty trips. It takes the buffers at rest, with the inputs as they are
and the result buffer and accumulators at anything, to the buffers at rest with the result buffer at `outAt … 80`. -/

@[expose] public section
set_option maxRecDepth 16384
noncomputable section
namespace Cert.Agg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

section
variable (c : Dev nD) (arg3 : Memref sig .tc .vmem S1024x1 .i32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1024x8 .f32) (harg6 : arg6.IsWhole) (arg7 : Memref sig .tc .vmem S8x768 .f32) (harg7 : arg7.IsWhole) (arg8 : Memref sig .tc .vmem S1x768 .f32) (harg8 : arg8.IsWhole) (arg9 : Memref sig .tc .vmem S1x768 .f32) (harg9 : arg9.IsWhole) (arg10 : Memref sig .tc .vmem S1x768 .f32) (harg10 : arg10.IsWhole) (arg11 : Memref sig .tc .vmem S100x768 .f32) (harg11 : arg11.IsWhole) (arg12 : Memref sig .tc .vmem S1024x768 .f32) (harg12 : arg12.IsWhole) (fx : HB F c hbX) (fm : HB F c hbM) (fc : HB F c hbC)
    (a3 : HB F c arg3) (a4 : HB F c arg4) (a5 : HB F c arg5) (a6 : HB F c arg6) (a7 : HB F c arg7) (a8 : HB F c arg8) (a9 : HB F c arg9) (a10 : HB F c arg10) (a11 : HB F c arg11) (o : HB F c arg12) (v12 v13 : Vec F S64x768 .f32) (v14 : Vec F S1x64 .f32)

/-- What is held before trip `k`. -/
def inv (k : ℕ) (_ : PUnit) : sProp 𝕄 :=
  iprop((if k < 20 then flights c fx fm fc (4 * k) else idle c fx fm fc) ∗ rest c fx fm fc arg3 arg4 arg5 arg6 arg7 arg8 arg9 arg10 arg11 arg12 a3 a4 a5 a6 a7 a8 a9 a10 a11 o v12 v13 v14 (4 * k))

/-- A trip keeps the invariant. -/
theorem trip_inv (k : Fin k0_t1_loop.trips) :
    inv c arg3 arg4 arg5 arg6 arg7 arg8 arg9 arg10 arg11 arg12 fx fm fc a3 a4 a5 a6 a7 a8 a9 a10 a11 o v12 v13 v14 k.val ⟨⟩
    ⊢ wp frame (wpE (defs₀ (F := F)) Variants.none c none) Set.univ (k0_t1_body (F := F) hbX (Memref.isWhole_whole _) hbM (Memref.isWhole_whole _) hbC (Memref.isWhole_whole _) arg3 harg3 arg4 harg4 arg5 harg5 arg6 harg6 arg7 harg7 arg8 harg8 arg9 harg9 arg10 harg10 arg11 harg11 arg12 harg12 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) cc0_scratch15 cc0_scratch16 cc0_scratch17 cc0_scratch18 cc0_scratch19 cc0_scratch20 cc0_scratch21 cc0_scratch22 cc0_scratch23 cc0_scratch24 cc0_scratch25 cc0_scratch26 k ()) fun _ =>
      inv c arg3 arg4 arg5 arg6 arg7 arg8 arg9 arg10 arg11 arg12 fx fm fc a3 a4 a5 a6 a7 a8 a9 a10 a11 o v12 v13 v14 (k.val + 1) ⟨⟩ := by
  unfold inv
  have hk : k.val < 20 := trips_eq ▸ k.isLt
  have e1 : (fun u : Fin 4 => k0_off1 k (BitVec.ofNat 32 u.val)) = fun u => xo (4 * k.val + u.val) := funext fun u => off1_xo k u
  have e2 : (fun u : Fin 4 => k0_off2 k (BitVec.ofNat 32 u.val)) = fun u => xo (4 * k.val + u.val) := funext fun u => off2_xo k u
  rw [if_pos hk, flights, ← flightsAt_congr c fx fm fc (fun u => k0_off1_inb k u) (fun u => k0_off2_inb k u) (fun u => xo_inb _) (fun u => xo_inb1 _) e1 e2]
  unfold flightsAt
  iintro H
  iapply (wp_wand_r frame (wpE (defs₀ (F := F)) Variants.none c none) Set.univ)
  isplitl [H]
  · iapply (trip c arg3 harg3 arg4 harg4 arg5 harg5 arg6 harg6 arg7 harg7 arg8 harg8 arg9 harg9 arg10 harg10 arg11 harg11 arg12 harg12 fx fm fc a3 a4 a5 a6 a7 a8 a9 a10 a11 o v12 v13 v14 k)
    iexact H
  · iintro %_ ⟨H1, H2⟩
    isplitl [H2]; · iexact H2
    rw [show 4 * (k.val + 1) = 4 * k.val + 4 by omega]
    iexact H1

set_option maxHeartbeats 4000000 in
/-- The body's run. -/
theorem body_run (K : PUnit → sProp 𝕄) :
    iprop(idle c fx fm fc ∗ rest c fx fm fc arg3 arg4 arg5 arg6 arg7 arg8 arg9 arg10 arg11 arg12 a3 a4 a5 a6 a7 a8 a9 a10 a11 o v12 v13 v14 0 ∗ (iprop(idle c fx fm fc ∗ rest c fx fm fc arg3 arg4 arg5 arg6 arg7 arg8 arg9 arg10 arg11 arg12 a3 a4 a5 a6 a7 a8 a9 a10 a11 o v12 v13 v14 80) -∗ K ⟨⟩))
    ⊢ wp frame (wpE (defs₀ (F := F)) Variants.none c none) Set.univ (cc0__ring_kernel hbX (Memref.isWhole_whole _) hbM (Memref.isWhole_whole _) hbC (Memref.isWhole_whole _) arg3 harg3 arg4 harg4 arg5 harg5 arg6 harg6 arg7 harg7 arg8 harg8 arg9 harg9 arg10 harg10 arg11 harg11 arg12 harg12 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) cc0_scratch15 cc0_scratch16 cc0_scratch17 cc0_scratch18 cc0_scratch19 cc0_scratch20 cc0_scratch21 cc0_scratch22 cc0_scratch23 cc0_scratch24 cc0_scratch25 cc0_scratch26) K := by
  simp only [cc0__ring_kernel_eq_skeleton]; unfold cc0__ring_kernel_skel
  unfold idle
  iintro ⟨⟨⟨⟨%g0, B0⟩, X0, S0⟩, ⟨⟨%g1, B1⟩, X1, S1⟩, ⟨⟨%g2, B2⟩, X2, S2⟩, ⟨⟨%g3, B3⟩, X3, S3⟩, ⟨⟨%g4, B4⟩, X4, S4⟩, ⟨⟨%g5, B5⟩, X5, S5⟩, ⟨⟨%g6, B6⟩, X6, S6⟩, ⟨⟨%g7, B7⟩, X7, S7⟩, ⟨⟨%g8, B8⟩, X8, S8⟩, ⟨⟨%g9, B9⟩, X9, S9⟩, ⟨⟨%g10, B10⟩, X10, S10⟩, ⟨⟨%g11, B11⟩, X11, S11⟩⟩, HR, HK⟩
  sl_exec
  sl_for (inv c arg3 arg4 arg5 arg6 arg7 arg8 arg9 arg10 arg11 arg12 fx fm fc a3 a4 a5 a6 a7 a8 a9 a10 a11 o v12 v13 v14) $$ [X0 S0 X1 S1 X2 S2 X3 S3 X4 S4 X5 S5 X6 S6 X7 S7 X8 S8 X9 S9 X10 S10 X11 S11 HR]
  case region =>
    intro k _
    exact trip_inv c arg3 harg3 arg4 harg4 arg5 harg5 arg6 harg6 arg7 harg7 arg8 harg8 arg9 harg9 arg10 harg10 arg11 harg11 arg12 harg12 fx fm fc a3 a4 a5 a6 a7 a8 a9 a10 a11 o v12 v13 v14 k
  · unfold inv
    rw [if_pos (show 0 < 20 by omega)]
    isplitr [HR]
    · unfold flights flightsAt
      isplitl [X0 S0]
      · iapply (xfl_intro c fx 10 sc0 _ _ (xo_inb (4 * 0 + ((0 : Fin 4) : ℕ))) (show (![0, 0] : Fin 2 → ℕ) = xo (4 * 0 + ((0 : Fin 4) : ℕ)) by decide))
        isplitl [S0]; · iexact S0
        iexact X0
      isplitl [X1 S1]
      · iapply (xfl_intro c fx 11 sc1 _ _ (xo_inb (4 * 0 + ((1 : Fin 4) : ℕ))) (show (![640, 0] : Fin 2 → ℕ) = xo (4 * 0 + ((1 : Fin 4) : ℕ)) by decide))
        isplitl [S1]; · iexact S1
        iexact X1
      isplitl [X2 S2]
      · iapply (xfl_intro c fx 12 sc2 _ _ (xo_inb (4 * 0 + ((2 : Fin 4) : ℕ))) (show (![1280, 0] : Fin 2 → ℕ) = xo (4 * 0 + ((2 : Fin 4) : ℕ)) by decide))
        isplitl [S2]; · iexact S2
        iexact X2
      isplitl [X3 S3]
      · iapply (xfl_intro c fx 13 sc3 _ _ (xo_inb (4 * 0 + ((3 : Fin 4) : ℕ))) (show (![1920, 0] : Fin 2 → ℕ) = xo (4 * 0 + ((3 : Fin 4) : ℕ)) by decide))
        isplitl [S3]; · iexact S3
        iexact X3
      isplitl [X4 S4]
      · iapply (mfl_intro c fm 14 sc4 _ _ (xo_inb1 (4 * 0 + ((0 : Fin 4) : ℕ))) (show (![0, 0] : Fin 2 → ℕ) = xo (4 * 0 + ((0 : Fin 4) : ℕ)) by decide))
        isplitl [S4]; · iexact S4
        iexact X4
      isplitl [X5 S5]
      · iapply (mfl_intro c fm 15 sc5 _ _ (xo_inb1 (4 * 0 + ((1 : Fin 4) : ℕ))) (show (![640, 0] : Fin 2 → ℕ) = xo (4 * 0 + ((1 : Fin 4) : ℕ)) by decide))
        isplitl [S5]; · iexact S5
        iexact X5
      isplitl [X6 S6]
      · iapply (mfl_intro c fm 16 sc6 _ _ (xo_inb1 (4 * 0 + ((2 : Fin 4) : ℕ))) (show (![1280, 0] : Fin 2 → ℕ) = xo (4 * 0 + ((2 : Fin 4) : ℕ)) by decide))
        isplitl [S6]; · iexact S6
        iexact X6
      isplitl [X7 S7]
      · iapply (mfl_intro c fm 17 sc7 _ _ (xo_inb1 (4 * 0 + ((3 : Fin 4) : ℕ))) (show (![1920, 0] : Fin 2 → ℕ) = xo (4 * 0 + ((3 : Fin 4) : ℕ)) by decide))
        isplitl [S7]; · iexact S7
        iexact X7
      isplitl [X8 S8]
      · iapply (cfl_intro c fc 18 sc8 _ _ (xo_inb1 (4 * 0 + ((0 : Fin 4) : ℕ))) (show (![0, 0] : Fin 2 → ℕ) = xo (4 * 0 + ((0 : Fin 4) : ℕ)) by decide))
        isplitl [S8]; · iexact S8
        iexact X8
      isplitl [X9 S9]
      · iapply (cfl_intro c fc 19 sc9 _ _ (xo_inb1 (4 * 0 + ((1 : Fin 4) : ℕ))) (show (![640, 0] : Fin 2 → ℕ) = xo (4 * 0 + ((1 : Fin 4) : ℕ)) by decide))
        isplitl [S9]; · iexact S9
        iexact X9
      isplitl [X10 S10]
      · iapply (cfl_intro c fc 20 sc10 _ _ (xo_inb1 (4 * 0 + ((2 : Fin 4) : ℕ))) (show (![1280, 0] : Fin 2 → ℕ) = xo (4 * 0 + ((2 : Fin 4) : ℕ)) by decide))
        isplitl [S10]; · iexact S10
        iexact X10
      iapply (cfl_intro c fc 21 sc11 _ _ (xo_inb1 (4 * 0 + ((3 : Fin 4) : ℕ))) (show (![1920, 0] : Fin 2 → ℕ) = xo (4 * 0 + ((3 : Fin 4) : ℕ)) by decide))
      isplitl [S11]; · iexact S11
      iexact X11
    · iexact HR
  iintro %_ HI
  ihave HI' := (Entails.of_eq (show inv c arg3 arg4 arg5 arg6 arg7 arg8 arg9 arg10 arg11 arg12 fx fm fc a3 a4 a5 a6 a7 a8 a9 a10 a11 o v12 v13 v14 k0_t1_loop.trips ⟨⟩ = inv c arg3 arg4 arg5 arg6 arg7 arg8 arg9 arg10 arg11 arg12 fx fm fc a3 a4 a5 a6 a7 a8 a9 a10 a11 o v12 v13 v14 20 ⟨⟩ from congrArg (fun n => inv c arg3 arg4 arg5 arg6 arg7 arg8 arg9 arg10 arg11 arg12 fx fm fc a3 a4 a5 a6 a7 a8 a9 a10 a11 o v12 v13 v14 n ⟨⟩) trips_eq)) $$ HI
  unfold inv
  rw [if_neg (show ¬ 20 < 20 by omega)]
  icases HI' with ⟨HI, HR⟩
  sl_exec
  sl_step
  iapply HK
  isplitl [HI]; · unfold idle; iexact HI
  iexact HR
end

/-- An accumulator at anything, as if it had been stored whole. -/
theorem acc_any (dst : Memref sig .tc .vmem S64x768 .f32) (c : Dev nD) (g : HB F c dst) :
    dst.view.writes (Elt F) g [⟨RC, (dst.view.slice RC).read (Elt F) g⟩] = g := by
  rw [View.writes_cons, View.writes_nil]
  exact (View.write_read_eq_piecewise _ _ _).trans (Finset.piecewise_same _ _)
theorem accN_any (dst : Memref sig .tc .vmem S1x64 .f32) (c : Dev nD) (g : HB F c dst) :
    dst.view.writes (Elt F) g [⟨RN, (dst.view.slice RN).read (Elt F) g⟩] = g := by
  rw [View.writes_cons, View.writes_nil]
  exact (View.write_read_eq_piecewise _ _ _).trans (Finset.piecewise_same _ _)
end Cert.Agg
end
-- ==== Proof.Result.lean ====
module
public import proofs.«01_k».proof.Proof.Flight
public import Idealize.ShloMosaic.Lib.Pointwise

/-! # The block of results

What the result buffer holds after the 80 chunks, whatever it and the accumulators held before the first. -/

@[expose] public section
set_option maxRecDepth 16384
noncomputable section
namespace Cert.Agg
open Cert.KernelIdeal Cert.KernelIdeal.Gen
open Idealize.ShloMosaic Idealize.ShloMosaic.TcCoe
variable {F : FTy → Type} [FloatOps F] (D : Inputs F)

/-- What the accumulators hold after a chunk does not depend on what they held before the first. -/
theorem candAt_any (a a' : Vec F S64x768 .f32) : ∀ i, candAt D a (i + 1) = candAt D a' (i + 1)
  | 0 => (cand_first rfl).trans (cand_first rfl).symm
  | i + 1 => by
    by_cases h : (i + 1) % 5 = 0
    · rw [cand_first h, cand_first h]
    · rw [cand_more h, cand_more h, candAt_any a a' i]
theorem visAt_any (a a' : Vec F S64x768 .f32) : ∀ i, visAt D a (i + 1) = visAt D a' (i + 1)
  | 0 => (vis_first rfl).trans (vis_first rfl).symm
  | i + 1 => by
    by_cases h : (i + 1) % 5 = 0
    · rw [vis_first h, vis_first h]
    · rw [vis_more h, vis_more h, visAt_any a a' i]
theorem cntAt_any (n n' : Vec F S1x64 .f32) : ∀ i, cntAt D n (i + 1) = cntAt D n' (i + 1)
  | 0 => (cnt_first rfl).trans (cnt_first rfl).symm
  | i + 1 => by
    by_cases h : (i + 1) % 5 = 0
    · rw [cnt_first h, cnt_first h]
    · rw [cnt_more h, cnt_more h, cntAt_any n n' i]

/-- Nothing in particular. -/
def anyC : Vec F S64x768 .f32 := keep (candPart (D.x 0) (D.m 0) (D.d 0))
def anyN : Vec F S1x64 .f32 := keepN (cntPart (D.m 0) (D.d 0))
theorem rowAt_any (a b : Vec F S64x768 .f32) (n : Vec F S1x64 .f32) (i : ℕ) :
    rowAt D a b n i = rowAt D (anyC D) (anyC D) (anyN D) i := by
  unfold rowAt; rw [candAt_any D a (anyC D), visAt_any D b (anyC D), cntAt_any D n (anyN D)]

/-- The block of results: row `r` is row `r % 64` of the block that batch `r / 64` stores at its fifth chunk. -/
def result : Vec F S1024x768 .f32 := fun y =>
  rowAt D (anyC D) (anyC D) (anyN D) (5 * ((y 0).val / 64) + 4) (ix2 ⟨(y 0).val % 64, Nat.mod_lt _ (by omega)⟩ (y 1))

theorem read_outAt_at (a b : Vec F S64x768 .f32) (n : Vec F S1x64 .f32) {c : Dev nD} {arg12 : Memref sig .tc .vmem S1024x768 .f32}
    (o : HB F c arg12) (y : S1024x768.Idx) : ∀ N, 5 * ((y 0).val / 64) + 4 < N → N ≤ 80 →
      arg12.view.read (Elt F) (outAt D a b n o N) y = result D y
  | 0, h, _ => absurd h (by omega)
  | N + 1, h, h' => by
    have hy : (y 0).val < 1024 := (y 0).isLt
    by_cases e : N % 5 = 4
    · rw [out_last e (bo N) (bo_inb N 768) rfl]
      have hb : bo N 0 = 64 * (N / 5) := by show 64 * (N % 80 / 5) = _; rw [Nat.mod_eq_of_lt (by omega)]
      by_cases q : (y 0).val / 64 = N / 5
      · rw [View.read_writes_cons_hit_of_coords _ _ _ _ _ (ix2 ⟨(y 0).val % 64, Nat.mod_lt _ (by omega)⟩ (y 1)) y ?_,
          rowAt_any]
        · unfold result
          rw [show 5 * ((y 0).val / 64) + 4 = N by omega]
          rfl
        · intro ax
          match ax with
          | ⟨0, _⟩ => show (y 0).val = bo N 0 + 1 * ((y 0).val % 64); omega
          | ⟨1, _⟩ => show (y 1).val = 0 + 1 * (y 1).val; omega
      · rw [View.read_writes_cons_miss_of_axis _ _ _ _ y 0 (bo N 0) 64 rfl rfl rfl ?_]
        · exact read_outAt_at a b n o y N (by omega) (by omega)
        · omega
    · rw [out_other e]
      exact read_outAt_at a b n o y N (by omega) (by omega)

/-- What the result buffer reads as after the last chunk. -/
theorem read_outAt (a b : Vec F S64x768 .f32) (n : Vec F S1x64 .f32) {c : Dev nD} {arg12 : Memref sig .tc .vmem S1024x768 .f32}
    (o : HB F c arg12) : arg12.view.read (Elt F) (outAt D a b n o 80) = result D :=
  funext fun y => read_outAt_at D a b n o y 80 (by have : (y 0).val < 1024 := (y 0).isLt; omega) le_rfl
end Cert.Agg
end
-- ==== Proof.Inputs.lean ====
module
public import proofs.«01_k».proof.Proof.Flight
public import proofs.«01_k».proof.Proof.Gen.KernelIdeal.Frame

/-! # What the kernel reads -/

@[expose] public section
set_option maxRecDepth 16384
noncomputable section
namespace Cert.Agg
open Cert.KernelIdeal Cert.KernelIdeal.Gen
open Idealize.ShloMosaic Idealize.ShloMosaic.TcCoe
variable {F : FTy → Type} [FloatOps F] (m : (ℓ : Loc nD τ sig) → Buf (Elt F) ℓ)
/-- The contents that window `w`'s staging buffer stands for. -/
abbrev stg0 (c : Dev nD) (t : Fin cfg0.N) : HB F c (st0_0 t) := (st0_0 t).view.rep (iblk m c 0 t)
abbrev stg1 (c : Dev nD) (t : Fin cfg0.N) : HB F c (st0_1 t) := (st0_1 t).view.rep (iblk m c 1 t)
abbrev stg2 (c : Dev nD) (t : Fin cfg0.N) : HB F c (st0_2 t) := (st0_2 t).view.rep (iblk m c 2 t)
abbrev stg3 (c : Dev nD) (t : Fin cfg0.N) : HB F c (st0_3 t) := (st0_3 t).view.rep (iblk m c 3 t)
abbrev stg4 (c : Dev nD) (t : Fin cfg0.N) : HB F c (st0_4 t) := (st0_4 t).view.rep (iblk m c 4 t)
abbrev stg5 (c : Dev nD) (t : Fin cfg0.N) : HB F c (st0_5 t) := (st0_5 t).view.rep (iblk m c 5 t)
abbrev stg6 (c : Dev nD) (t : Fin cfg0.N) : HB F c (st0_6 t) := (st0_6 t).view.rep (iblk m c 6 t)
abbrev stg7 (c : Dev nD) (t : Fin cfg0.N) : HB F c (st0_7 t) := (st0_7 t).view.rep (iblk m c 7 t)
abbrev stg8 (c : Dev nD) (t : Fin cfg0.N) : HB F c (st0_8 t) := (st0_8 t).view.rep (iblk m c 8 t)
/-- What the kernel reads on device `c`. -/
def inputs (c : Dev nD) (t : Fin cfg0.N) : Inputs F :=
  inOf c (V m c main_call0_v0) (V m c main_call0_v10) (V m c main_call0_v11) (st0_0 t) (st0_1 t) (st0_2 t) (st0_3 t) (st0_4 t) (st0_5 t) (st0_6 t) (st0_7 t) (st0_8 t) (stg0 m c t) (stg1 m c t) (stg2 m c t) (stg3 m c t) (stg4 m c t) (stg5 m c t) (stg6 m c t) (stg7 m c t) (stg8 m c t)

end Cert.Agg
end
-- ==== Proof.Run.lean ====
module
public import proofs.«01_k».proof.Proof.Body
public import proofs.«01_k».proof.Proof.Result
public import proofs.«01_k».proof.Proof.Inputs
public import proofs.«01_k».proof.Proof.Gen.KernelIdeal.Frame

/-! # The launch

The body's run as the pipeline library's obligation, and the program's run: every execution ends, the semaphores are at rest, and the
arrays hold what the proof data say. -/

@[expose] public section
set_option maxRecDepth 16384
noncomputable section
namespace Cert.Agg
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
variable {F : FTy → Type} [FloatOps F]
local notation "𝕄" => MT nD τ sig Unit (Elt F) ℕ (Pipeline.UD sig nD τ) ℕ

/-! ## Small facts -/
/-- Holding a buffer that reads as `X` is holding it at the contents that `X` stands for, and the other way round. -/
theorem owned_rep (c : Dev nD) {S : Shape} {e : EltTy} (M : Memref sig .tc .vmem S e) (X : S.Idx → Elt F e) :
    (owns (c : Thread nD τ) M fullShare X : sProp 𝕄) ⊢ (M.view.loc (c : Thread nD τ) ↦[M.view.set]{fullShare} M.view.rep X) := by
  unfold owns
  iintro ⟨%g, %h, H⟩
  subst h
  iapply (pointsTo_rep_entails (c : Thread nD τ) M g fullShare)
  iexact H
theorem rep_owned (c : Dev nD) {S : Shape} {e : EltTy} (M : Memref sig .tc .vmem S e) (X : S.Idx → Elt F e) :
    (M.view.loc (c : Thread nD τ) ↦[M.view.set]{fullShare} M.view.rep X : sProp 𝕄) ⊢ owns (c : Thread nD τ) M fullShare X := by
  unfold owns
  iintro H
  iexists _
  isplitr; · ipureintro; exact View.read_rep _ _
  iexact H

/-- Holding the result buffer after the last chunk is holding it at the block of results. -/
theorem out_owned (D : Inputs F) (c : Dev nD) (M : Memref sig .tc .vmem S1024x768 .f32) (a b : Vec F S64x768 .f32) (n : Vec F S1x64 .f32)
    (o : HB F c M) : (M.view.loc (c : Thread nD τ) ↦[M.view.set]{fullShare} outAt D a b n o 80 : sProp 𝕄)
      ⊢ owns (c : Thread nD τ) M fullShare (result D) := by
  unfold owns
  iintro H
  iexists _
  isplitr; · ipureintro; exact read_outAt D a b n o
  iexact H
/-- A family over the 22 cells, four of them first. -/
theorem cellsX (A : Fin 22 → sProp 𝕄) : BI.bigSep Finset.univ A
    = iprop(A 10 ∗ A 11 ∗ A 12 ∗ A 13 ∗ bigSepL ([0, 1, 2, 3, 4, 5, 6, 7, 8, 9, 14, 15, 16, 17, 18, 19, 20, 21] : List (Fin 22)) A) :=
  bigSep_univ_eq_bigSepL ([10, 11, 12, 13, 0, 1, 2, 3, 4, 5, 6, 7, 8, 9, 14, 15, 16, 17, 18, 19, 20, 21] : List (Fin 22)) (by decide) (by decide) A
/-- A family over the 22 cells, four of them first. -/
theorem cellsM (A : Fin 22 → sProp 𝕄) : BI.bigSep Finset.univ A
    = iprop(A 14 ∗ A 15 ∗ A 16 ∗ A 17 ∗ bigSepL ([0, 1, 2, 3, 4, 5, 6, 7, 8, 9, 10, 11, 12, 13, 18, 19, 20, 21] : List (Fin 22)) A) :=
  bigSep_univ_eq_bigSepL ([14, 15, 16, 17, 0, 1, 2, 3, 4, 5, 6, 7, 8, 9, 10, 11, 12, 13, 18, 19, 20, 21] : List (Fin 22)) (by decide) (by decide) A
/-- A family over the 22 cells, four of them first. -/
theorem cellsC (A : Fin 22 → sProp 𝕄) : BI.bigSep Finset.univ A
    = iprop(A 18 ∗ A 19 ∗ A 20 ∗ A 21 ∗ bigSepL ([0, 1, 2, 3, 4, 5, 6, 7, 8, 9, 10, 11, 12, 13, 14, 15, 16, 17] : List (Fin 22)) A) :=
  bigSep_univ_eq_bigSepL ([18, 19, 20, 21, 0, 1, 2, 3, 4, 5, 6, 7, 8, 9, 10, 11, 12, 13, 14, 15, 16, 17] : List (Fin 22)) (by decide) (by decide) A

/-! ## The launch's set-up -/
variable (m : (ℓ : Loc nD τ sig) → Buf (Elt F) ℓ) (ρ : Dev nD → PrngReg)

/-- The twelve DMA semaphores. -/
abbrev osem0 : Fin 12 → SemLoc sig := fun j => (![SemLoc.dma 10, SemLoc.dma 11, SemLoc.dma 12, SemLoc.dma 13, SemLoc.dma 14, SemLoc.dma 15,
  SemLoc.dma 16, SemLoc.dma 17, SemLoc.dma 18, SemLoc.dma 19, SemLoc.dma 20, SemLoc.dma 21] : Fin 12 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3, 4, 5, 6, 7, 8, 9, 10, 11] (by decide) (by decide)]; rfl
/-- The three arrays left in HBM. -/
def H0 : Finset (Ref sig .tc) := {main_call0_v0, main_call0_v10, main_call0_v11}
theorem H0_sub : H0 ⊆ Pipeline.restRefs sig spec0 := by decide
theorem hbmPts0_eq (c : Dev nD) :
    (bigSep H0 (fun b => ((c : Thread nD τ).loc b) ↦{fullShare} V m c b) : sProp 𝕄)
      = iprop((hbX.view.loc (c : Thread nD τ) ↦{fullShare} V m c main_call0_v0) ∗ (hbM.view.loc (c : Thread nD τ) ↦{fullShare} V m c main_call0_v10)
          ∗ (hbC.view.loc (c : Thread nD τ) ↦{fullShare} V m c main_call0_v11)) := by
  rw [BI.bigSep_eq_bigSepL_of_eq [main_call0_v0, main_call0_v10, main_call0_v11] (by decide) (by decide)]; rfl
/-- The invariant of the one point, part by part. -/
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f) ∗ (∃ f : Buf (Elt F) ((c : Thread nD τ).loc cc0_scratch13), ((c : Thread nD τ).loc cc0_scratch13) ↦{fullShare} f) ∗ (∃ f : Buf (Elt F) ((c : Thread nD τ).loc cc0_scratch14), ((c : Thread nD τ).loc cc0_scratch14) ↦{fullShare} f))
          ∗ (∃ r, prngReg c r)
          ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)
          ∗ iprop((hbX.view.loc (c : Thread nD τ) ↦{fullShare} V m c main_call0_v0) ∗ (hbM.view.loc (c : Thread nD τ) ↦{fullShare} V m c main_call0_v10)
          ∗ (hbC.view.loc (c : Thread nD τ) ↦{fullShare} V m c main_call0_v11))) := by
  rw [Pipeline.ΦD_eq, scopedRest0_eq, ownSems00_eq, hbmPts0_eq]

/-- The proof data: the inputs stay, and the result's block is `result`. -/
def dats : (p : Fin 1) → (c : Dev nD) → Dat τ (Elt F) Unit ℕ (Pipeline.UD sig nD τ) ℕ (cfgs p) c := fun | ⟨0, _⟩ => fun c => {
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => result (inputs m c t)
  Φ _ := Pipeline.ΦD osem0 spec0 H0 (V m) c
  q _ := fullShare
  owed _ := 0 }
theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = result (inputs m c t) := by dsimp only [dats]
theorem before0_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before0_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before0_2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before0_3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before0_4 (c : Dev nD) (t : Fin cfg0.N) (d) : (dats m 0 c).before 4 t d = iblk m c 4 t := by
  unfold Dat.before; rw [if_pos (fetch0_4 t)]; unfold Dat.fetched Dat.blockOf iblk; dsimp only [dats]; rfl
theorem before0_5 (c : Dev nD) (t : Fin cfg0.N) (d) : (dats m 0 c).before 5 t d = iblk m c 5 t := by
  unfold Dat.before; rw [if_pos (fetch0_5 t)]; unfold Dat.fetched Dat.blockOf iblk; dsimp only [dats]; rfl
theorem before0_6 (c : Dev nD) (t : Fin cfg0.N) (d) : (dats m 0 c).before 6 t d = iblk m c 6 t := by
  unfold Dat.before; rw [if_pos (fetch0_6 t)]; unfold Dat.fetched Dat.blockOf iblk; dsimp only [dats]; rfl
theorem before0_7 (c : Dev nD) (t : Fin cfg0.N) (d) : (dats m 0 c).before 7 t d = iblk m c 7 t := by
  unfold Dat.before; rw [if_pos (fetch0_7 t)]; unfold Dat.fetched Dat.blockOf iblk; dsimp only [dats]; rfl
theorem before0_8 (c : Dev nD) (t : Fin cfg0.N) (d) : (dats m 0 c).before 8 t d = iblk m c 8 t := by
  unfold Dat.before; rw [if_pos (fetch0_8 t)]; unfold Dat.fetched Dat.blockOf iblk; dsimp only [dats]; rfl

/-! ## The body's obligation -/
/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.castSucc = Pipeline.ΦD osem0 spec0 H0 (V m) c from rfl,
    show (dats m 0 c).Φ t.succ = Pipeline.ΦD osem0 spec0 H0 (V m) c from rfl, PhiD0_eq, after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  iintro ⟨⟨⟨B0, B1, B2, B3, B4, B5, B6, B7, B8, B9, B10, B11, ⟨%g12, A12⟩, ⟨%g13, A13⟩, ⟨%g14, A14⟩⟩, HP, ⟨S10, S11, S12, S13, S14, S15, S16, S17, S18, S19, S20, S21⟩, HX, HM, HC⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave G0 := (owned_rep c (st0_0 t) _) $$ H0
  ihave G1 := (owned_rep c (st0_1 t) _) $$ H1
  ihave G2 := (owned_rep c (st0_2 t) _) $$ H2
  ihave G3 := (owned_rep c (st0_3 t) _) $$ H3
  ihave G4 := (owned_rep c (st0_4 t) _) $$ H4
  ihave G5 := (owned_rep c (st0_5 t) _) $$ H5
  ihave G6 := (owned_rep c (st0_6 t) _) $$ H6
  ihave G7 := (owned_rep c (st0_7 t) _) $$ H7
  ihave G8 := (owned_rep c (st0_8 t) _) $$ H8
  ihave G9 := (owned_rep c (st0_9 t) _) $$ H9
  ihave TX := (Transfers.pointsTo_toks_split fullShare 22) $$ HX
  rw [cellsX]
  icases TX with ⟨LX, X0, X1, X2, X3, RX⟩
  ihave TM := (Transfers.pointsTo_toks_split fullShare 22) $$ HM
  rw [cellsM]
  icases TM with ⟨LM, M0, M1, M2, M3, RM⟩
  ihave TC := (Transfers.pointsTo_toks_split fullShare 22) $$ HC
  rw [cellsC]
  icases TC with ⟨LC, C0, C1, C2, C3, RC⟩
  ihave A12' := (Entails.of_eq (congrArg (fun z => (sc12.view.loc (c : Thread nD τ) ↦{fullShare} z : sProp 𝕄)) (acc_any sc12 c g12).symm)) $$ A12
  ihave A13' := (Entails.of_eq (congrArg (fun z => (sc13.view.loc (c : Thread nD τ) ↦{fullShare} z : sProp 𝕄)) (acc_any sc13 c g13).symm)) $$ A13
  ihave A14' := (Entails.of_eq (congrArg (fun z => (sc14.view.loc (c : Thread nD τ) ↦{fullShare} z : sProp 𝕄)) (accN_any sc14 c g14).symm)) $$ A14
  iapply (body_run c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (V m c main_call0_v0) (V m c main_call0_v10) (V m c main_call0_v11) (stg0 m c t) (stg1 m c t) (stg2 m c t) (stg3 m c t) (stg4 m c t) (stg5 m c t) (stg6 m c t) (stg7 m c t) (stg8 m c t) _
    ((sc12.view.slice RC).read (Elt F) g12) ((sc13.view.slice RC).read (Elt F) g13) ((sc14.view.slice RN).read (Elt F) g14))
  isplitl [B0 X0 S10 B1 X1 S11 B2 X2 S12 B3 X3 S13 B4 M0 S14 B5 M1 S15 B6 M2 S16 B7 M3 S17 B8 C0 S18 B9 C1 S19 B10 C2 S20 B11 C3 S21]
  · unfold idle
    isplitl [B0 X0 S10]
    · isplitl [B0]; · iexact B0
      isplitl [X0]; · iexact X0
      iexact S10
    isplitl [B1 X1 S11]
    · isplitl [B1]; · iexact B1
      isplitl [X1]; · iexact X1
      iexact S11
    isplitl [B2 X2 S12]
    · isplitl [B2]; · iexact B2
      isplitl [X2]; · iexact X2
      iexact S12
    isplitl [B3 X3 S13]
    · isplitl [B3]; · iexact B3
      isplitl [X3]; · iexact X3
      iexact S13
    isplitl [B4 M0 S14]
    · isplitl [B4]; · iexact B4
      isplitl [M0]; · iexact M0
      iexact S14
    isplitl [B5 M1 S15]
    · isplitl [B5]; · iexact B5
      isplitl [M1]; · iexact M1
      iexact S15
    isplitl [B6 M2 S16]
    · isplitl [B6]; · iexact B6
      isplitl [M2]; · iexact M2
      iexact S16
    isplitl [B7 M3 S17]
    · isplitl [B7]; · iexact B7
      isplitl [M3]; · iexact M3
      iexact S17
    isplitl [B8 C0 S18]
    · isplitl [B8]; · iexact B8
      isplitl [C0]; · iexact C0
      iexact S18
    isplitl [B9 C1 S19]
    · isplitl [B9]; · iexact B9
      isplitl [C1]; · iexact C1
      iexact S19
    isplitl [B10 C2 S20]
    · isplitl [B10]; · iexact B10
      isplitl [C2]; · iexact C2
      iexact S20
    isplitl [B11]; · iexact B11
    isplitl [C3]; · iexact C3
    iexact S21
  isplitl [G0 G1 G2 G3 G4 G5 G6 G7 G8 G9 A12' A13' A14' HW]
  · unfold rest
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [A12']; · iexists g12; iexact A12'
    isplitl [A13']; · iexists g13; iexact A13'
    isplitl [A14']; · iexists g14; iexact A14'
    iexists W; iexact HW
  unfold idle rest
  iintro ⟨⟨⟨B0, X0, S10⟩, ⟨B1, X1, S11⟩, ⟨B2, X2, S12⟩, ⟨B3, X3, S13⟩, ⟨B4, M0, S14⟩, ⟨B5, M1, S15⟩, ⟨B6, M2, S16⟩, ⟨B7, M3, S17⟩, ⟨B8, C0, S18⟩, ⟨B9, C1, S19⟩, ⟨B10, C2, S20⟩, ⟨B11, C3, S21⟩⟩, G0, G1, G2, G3, G4, G5, G6, G7, G8, H9, ⟨%k12, A12⟩, ⟨%k13, A13⟩, ⟨%k14, A14⟩, ⟨%W', HW⟩⟩
  ihave HX : (hbX.view.loc (c : Thread nD τ) ↦{fullShare} V m c main_call0_v0) $$ [LX X0 X1 X2 X3 RX]
  · iapply (Transfers.pointsTo_toks_join fullShare 22)
    rw [cellsX]
    isplitl [LX]; · iexact LX
    isplitl [X0]; · iexact X0
    isplitl [X1]; · iexact X1
    isplitl [X2]; · iexact X2
    isplitl [X3]; · iexact X3
    iexact RX
  ihave HM : (hbM.view.loc (c : Thread nD τ) ↦{fullShare} V m c main_call0_v10) $$ [LM M0 M1 M2 M3 RM]
  · iapply (Transfers.pointsTo_toks_join fullShare 22)
    rw [cellsM]
    isplitl [LM]; · iexact LM
    isplitl [M0]; · iexact M0
    isplitl [M1]; · iexact M1
    isplitl [M2]; · iexact M2
    isplitl [M3]; · iexact M3
    iexact RM
  ihave HC : (hbC.view.loc (c : Thread nD τ) ↦{fullShare} V m c main_call0_v11) $$ [LC C0 C1 C2 C3 RC]
  · iapply (Transfers.pointsTo_toks_join fullShare 22)
    rw [cellsC]
    isplitl [LC]; · iexact LC
    isplitl [C0]; · iexact C0
    isplitl [C1]; · iexact C1
    isplitl [C2]; · iexact C2
    isplitl [C3]; · iexact C3
    iexact RC
  isplitl [B0 B1 B2 B3 B4 B5 B6 B7 B8 B9 B10 B11 A12 A13 A14 HP S10 S11 S12 S13 S14 S15 S16 S17 S18 S19 S20 S21 HX HM HC]
  · isplitl [B0 B1 B2 B3 B4 B5 B6 B7 B8 B9 B10 B11 A12 A13 A14]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [A12]; · iexists _; iexact A12
      isplitl [A13]; · iexists _; iexact A13
      iexists _; iexact A14
    isplitl [HP]; · iexact HP
    isplitl [S10 S11 S12 S13 S14 S15 S16 S17 S18 S19 S20 S21]
    · isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      iexact S21
    isplitl [HX]; · iexact HX
    isplitl [HM]; · iexact HM
    iexact HC
  isplitl [HW]
  · iexists W'; isplitr; · ipureintro; exact fun _ _ => Or.inl trivial
    iexact HW
  isplitl [G0]; · iapply (rep_owned c (st0_0 t) _); iexact G0
  isplitl [G1]; · iapply (rep_owned c (st0_1 t) _); iexact G1
  isplitl [G2]; · iapply (rep_owned c (st0_2 t) _); iexact G2
  isplitl [G3]; · iapply (rep_owned c (st0_3 t) _); iexact G3
  isplitl [G4]; · iapply (rep_owned c (st0_4 t) _); iexact G4
  isplitl [G5]; · iapply (rep_owned c (st0_5 t) _); iexact G5
  isplitl [G6]; · iapply (rep_owned c (st0_6 t) _); iexact G6
  isplitl [G7]; · iapply (rep_owned c (st0_7 t) _); iexact G7
  isplitl [G8]; · iapply (rep_owned c (st0_8 t) _); iexact G8
  iapply (out_owned (inputs m c t) c (st0_9 t) _ _ _ _)
  iexact H9

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/
set_option maxHeartbeats 800000 in
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain
/-- The lines after the region touch the arrays and the buffers that the body does not use. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  simp only [hostOps1, List.mem_cons, List.mem_nil_iff, or_false] at hop
  subst hop
  exact Pipeline.sub_tailRefsBut _ _ _ _ ((List.forall_iff_forall_mem.mp hostOps1_sub) _ (List.mem_singleton.mpr rfl)) (fun k => k.elim0)
    (by
      intro b hb
      simp only [H0, Finset.mem_insert, Finset.mem_singleton] at hb
      simp only [StableHlo.TRef.reshape, StableHlo.reshape_bufs, Finset.mem_insert, Finset.mem_singleton, not_or]
      rcases hb with rfl | rfl | rfl <;> exact ⟨StableHlo.devRef_ne_of_ne (by decide), StableHlo.devRef_ne_of_ne (by decide)⟩)

set_option backward.isDefEq.respectTransparency.types false in
/-- The run: the arrays hold what the proof data say, the other buffers what the host lines leave, and the semaphores are at rest. -/
theorem run_main : θ_run defs (onTc (τ := τ) (main (F := F))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m) (hA := A_eq m) (hin := fun _ => .rfl) (hout := fun _ => .rfl) (hQ' := fun _ h => h)
end Cert.Agg
end
-- ==== Proof.Ends.lean ====
module
public import proofs.«01_k».proof.Proof.Run
public import Idealize.ShloMosaic.Lib.Pipeline.ValueKit

/-! # How the program ends

The arguments end as they began, and the result array holds the block of results, row by row. -/

@[expose] public section
set_option maxRecDepth 16384
noncomputable section
namespace Cert.Agg
open Cert.KernelIdeal Cert.KernelIdeal.Gen
open Idealize.ShloMosaic Idealize.ShloMosaic.TcCoe Idealize.ShloMosaic.Tactic
open Idealize.SL Idealize.SL.Sem
open Idealize.ShloMosaic.Pipeline (Dat)
variable {F : FTy → Type} [FloatOps F] (m : (ℓ : Loc nD τ sig) → Buf (Elt F) ℓ) (ρ : Dev nD → PrngReg)

/-- The last host line writes the result only, so an argument that the lines before the kernel leave alone ends as it began. -/
theorem kept (c : Dev nD) (b : Ref sig .tc) (h : b ≠ main_v0) (h' : ∀ w, Pipeline.arrRef spec0 w ≠ b)
    (hV : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.TRef.reshape, StableHlo.reshape_writes,
        Finset.mem_singleton]
      exact StableHlo.devRef_ne_of_ne h)),
    Pipeline.withArrays_of_ne _ c (V0 m c) _ b h']
  exact hV

/-- The array that the kernel leaves, and the result that the last host line makes of it. -/
theorem array_end (c : Dev nD) : (dats m 0 c).arrAt 9 cfg0.N = result (inputs m c t0_0) :=
  (dats m 0 c).arrAt_eq_of_after_last 9 t0_0 (by decide +kernel) _ fun j => by
    rw [after0_9]; rfl
theorem hinjW : Function.Injective (Pipeline.arrRef spec0) := by decide
theorem result_end (c : Dev nD) : Pipeline.afterTail₀ cfgs (dats m) 0 (V0 m) [hostOps1] c main_v0
    = shapeCast S16x64x768 (result (inputs m c t0_0)) shapeCasts_S1024x768_S16x64x768 := by
  have h := Pipeline.withArrays_arr spec0 hinjW c (V0 m c) (fun w => (dats m 0 c).arrAt w cfg0.N) 9
  unfold Pipeline.afterTail₀
  have h2 : StableHlo.after (hostOps1 (F := F)) (Pipeline.withArrays spec0 c (V0 m c) fun w => (dats m 0 c).arrAt w cfg0.N) (Proc.devRef .tc main_v0)
      = shapeCast S16x64x768 (Pipeline.withArrays spec0 c (V0 m c) (fun w => (dats m 0 c).arrAt w cfg0.N) (Proc.devRef .tc main_call0_v23)) shapeCasts_S1024x768_S16x64x768 := by
    unfold hostOps1
    rw [StableHlo.after_cons, StableHlo.after_nil]
    unfold StableHlo.TRef.reshape
    rw [StableHlo.reshape_result']
    rfl
  refine h2.trans (congrArg (fun z => shapeCast S16x64x768 z shapeCasts_S1024x768_S16x64x768) ?_)
  exact h.trans (array_end m c)

/-- The program's run: the result and the arguments at the end, the semaphores at rest. -/
theorem ends : θ_run defs (onTc (τ := τ) (main (F := F))) ⟨m, fun _ => 0, ρ⟩ (fun r => (∀ c : Dev nD, r.2.mem ((c.tc : Thread nD τ).loc main_v0) = shapeCast S16x64x768 (result (inputs m c t0_0)) shapeCasts_S1024x768_S16x64x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨((h.1 c).2 main_v0 (Pipeline.mem_restRefs_of main_v0 (by decide) (by decide))).trans (result_end m c),
    ((h.1 c).2 main_arg0 (Pipeline.mem_restRefs_of main_arg0 (by decide) (by decide))).trans (kept m c main_arg0 (by decide) (by decide) (V_main_arg0 m c)),
    ((h.1 c).2 main_arg1 (Pipeline.mem_restRefs_of main_arg1 (by decide) (by decide))).trans (kept m c main_arg1 (by decide) (by decide) (V_main_arg1 m c)),
    ((h.1 c).2 main_arg2 (Pipeline.mem_restRefs_of main_arg2 (by decide) (by decide))).trans (kept m c main_arg2 (by decide) (by decide) (V_main_arg2 m c)),
    ((h.1 c).2 main_arg3 (Pipeline.mem_restRefs_of main_arg3 (by decide) (by decide))).trans (kept m c main_arg3 (by decide) (by decide) (V_main_arg3 m c)),
    ((h.1 c).2 main_arg4 (Pipeline.mem_restRefs_of main_arg4 (by decide) (by decide))).trans (kept m c main_arg4 (by decide) (by decide) (V_main_arg4 m c)),
    ((h.1 c).2 main_arg5 (Pipeline.mem_restRefs_of main_arg5 (by decide) (by decide))).trans (kept m c main_arg5 (by decide) (by decide) (V_main_arg5 m c)),
    ((h.1 c).2 main_arg6 (Pipeline.mem_restRefs_of main_arg6 (by decide) (by decide))).trans (kept m c main_arg6 (by decide) (by decide) (V_main_arg6 m c)),
    ((h.1 c).2 main_arg7 (Pipeline.mem_restRefs_of main_arg7 (by decide) (by decide))).trans (kept m c main_arg7 (by decide) (by decide) (V_main_arg7 m c)),
    ((h.1 c).2 main_arg8 (Pipeline.mem_restRefs_of main_arg8 (by decide) (by decide))).trans (kept m c main_arg8 (by decide) (by decide) (V_main_arg8 m c)),
    ((h.1 c).2 main_arg9 (Pipeline.mem_restRefs_of main_arg9 (by decide) (by decide))).trans (kept m c main_arg9 (by decide) (by decide) (V_main_arg9 m c)),
    ((h.1 c).2 main_arg10 (Pipeline.mem_restRefs_of main_arg10 (by decide) (by decide))).trans (kept m c main_arg10 (by decide) (by decide) (V_main_arg10 m c)),
    ((h.1 c).2 main_arg11 (Pipeline.mem_restRefs_of main_arg11 (by decide) (by decide))).trans (kept m c main_arg11 (by decide) (by decide) (V_main_arg11 m c)),
    ((h.1 c).2 main_arg12 (Pipeline.mem_restRefs_of main_arg12 (by decide) (by decide))).trans (kept m c main_arg12 (by decide) (by decide) (V_main_arg12 m c)),
    ((h.1 c).2 main_arg13 (Pipeline.mem_restRefs_of main_arg13 (by decide) (by decide))).trans (kept m c main_arg13 (by decide) (by decide) (V_main_arg13 m c)),
    ((h.1 c).1 8).trans (((dats m 0 c).arrAt_in 8 rfl _).trans ((A_eq m c 8).trans (V_main_arg14 m c)))⟩, h.2⟩) (run_main m ρ)
end Cert.Agg
end
-- ==== Proof.HostAt.lean ====
module
public import proofs.«01_k».proof.Proof.Inputs
public import Idealize.ShloMosaic.Lib.Pointwise
public import Idealize.ShloMosaic.Lib.StableHlo.ReadAt

/-! # The arrays that the kernel reads, at an index -/

@[expose] public section
set_option maxRecDepth 16384
noncomputable section
namespace Cert.Agg
open Cert.KernelIdeal Cert.KernelIdeal.Gen
open Idealize.ShloMosaic Idealize.ShloMosaic.TcCoe
variable (m : (ℓ : Loc nD τ sig) → Buf (Elt Ideal) ℓ) (c : Dev nD)

/-- Row `r` of the features is view `r % 64` of step `r / 64 % 50` of batch `r / 3200`. -/
theorem V_x (r : Fin 51200) (j : Fin 768) (b : Fin 16) (t : Fin 50) (v : Fin 64) (h : r.val = 3200 * b.val + 64 * t.val + v.val) :
    V m c main_call0_v0 (ix2 r j) = m ((c : Thread nD τ).loc main_arg2) (ix4 b t v j) := by
  unfold V
  after_reads_at
  have e1 : r.val % 64 = v.val := by omega
  have e2 : r.val / 64 % 50 = t.val := by omega
  have e3 : r.val / 3200 = b.val := by omega
  simp only [e1, e2, e3, Fin.eta]
/-- Whether a view is one of its step's, as 1 or 0. -/
theorem V_m (r : Fin 51200) (b : Fin 16) (t : Fin 50) (v : Fin 64) (h : r.val = 3200 * b.val + 64 * t.val + v.val) :
    V m c main_call0_v10 (ix2 r 0) = FloatOps.uitofp (F := Ideal) FTy.f32 (IntOp.cmpi .slt (BitVec.ofNat 32 v.val)
      (IntOp.maxsi (m ((c : Thread nD τ).loc main_arg3) (ix2 b t)) 1#32)) := by
  unfold V
  after_reads_at
  have e1 : r.val % 64 = v.val := by omega
  have e2 : r.val / 64 % 50 = t.val := by omega
  have e3 : r.val / 3200 = b.val := by omega
  simp only [e1, e2, e3, Fin.eta]
theorem V_d (r : Fin 51200) (b : Fin 16) (t : Fin 50) (v : Fin 64) (h : r.val = 3200 * b.val + 64 * t.val + v.val) :
    V m c main_call0_v11 (ix2 r 0) = m ((c : Thread nD τ).loc main_arg5) (ix3 b t v) := by
  unfold V
  after_reads_at
  have e1 : r.val % 64 = v.val := by omega
  have e2 : r.val / 64 % 50 = t.val := by omega
  have e3 : r.val / 3200 = b.val := by omega
  simp only [e1, e2, e3, Fin.eta]
theorem V_len (r : Fin 1024) (b : Fin 16) (n : Fin 64) (h : r.val = 64 * b.val + n.val) : V m c main_call0_v13 (ix2 r 0)
    = if h : n.val < 50 then m ((c : Thread nD τ).loc main_arg3) (ix2 b ⟨n.val, h⟩) else 1#32 := by
  unfold V
  after_reads_at
  have e2 : r.val % 64 = n.val := by omega
  have e3 : r.val / 64 = b.val := by omega
  simp only [e2, e3, Fin.eta, b.isLt, true_and]
  rfl
theorem V_v (r : Fin 1024) (b : Fin 16) (n : Fin 64) (h : r.val = 64 * b.val + n.val) : V m c main_call0_v15 (ix2 r 0)
    = if h : n.val < 50 then m ((c : Thread nD τ).loc main_arg4) (ix2 b ⟨n.val, h⟩) else 4294967294#32 := by
  unfold V
  after_reads_at
  have e2 : r.val % 64 = n.val := by omega
  have e3 : r.val / 64 = b.val := by omega
  simp only [e2, e3, Fin.eta, b.isLt, true_and]
  rfl
theorem V_sid (r : Fin 1024) (b : Fin 16) (n : Fin 64) (h : r.val = 64 * b.val + n.val) :
    V m c main_call0_v16 (ix2 r 0) = m ((c : Thread nD τ).loc main_arg7) (ix2 b n) := by
  unfold V
  after_reads_at
  have e2 : r.val % 64 = n.val := by omega
  have e3 : r.val / 64 = b.val := by omega
  simp only [e2, e3, Fin.eta]
theorem V_pos (r : Fin 1024) (b : Fin 16) (n : Fin 64) (j : Fin 8) (h : r.val = 64 * b.val + n.val) : V m c main_call0_v18 (ix2 r j)
    = if h : j.val < 7 then m ((c : Thread nD τ).loc main_arg8) (ix3 b n ⟨j.val, h⟩) else FloatOps.sitofp (F := Ideal) FTy.f32 0#32 := by
  unfold V
  after_reads_at
  have e2 : r.val % 64 = n.val := by omega
  have e3 : r.val / 64 = b.val := by omega
  simp only [e2, e3, Fin.eta, b.isLt, n.isLt, true_and]
theorem V_wpos (r : Fin 8) (j : Fin 768) : V m c main_call0_v19 (ix2 r j)
    = if h : r.val < 7 then m ((c : Thread nD τ).loc main_arg10) (ix2 ⟨r.val, h⟩ j) else FloatOps.sitofp (F := Ideal) FTy.f32 0#32 := by
  unfold V
  after_reads_at
theorem V_bpos (j : Fin 768) : V m c main_call0_v20 (ix2 0 j) = m ((c : Thread nD τ).loc main_arg11) (ix1 j) := by
  unfold V
  after_reads_at
theorem V_gam (j : Fin 768) : V m c main_call0_v21 (ix2 0 j) = m ((c : Thread nD τ).loc main_arg12) (ix1 j) := by
  unfold V
  after_reads_at
theorem V_bet (j : Fin 768) : V m c main_call0_v22 (ix2 0 j) = m ((c : Thread nD τ).loc main_arg13) (ix1 j) := by
  unfold V
  after_reads_at
end Cert.Agg
end
-- ==== Proof.InAt.lean ====
module
public import proofs.«01_k».proof.Proof.HostAt
public import Idealize.ShloMosaic.Lib.Pipeline.ValueKit

/-! # What the kernel reads, at an index

Chunk `5 * b + q` is the `q`-th of batch `b`: steps `10 * q` to `10 * q + 9`. -/

@[expose] public section
set_option maxRecDepth 16384
noncomputable section
namespace Cert.Agg
open Cert.KernelIdeal Cert.KernelIdeal.Gen
open Idealize.ShloMosaic Idealize.ShloMosaic.TcCoe
variable (m : (ℓ : Loc nD τ sig) → Buf (Elt Ideal) ℓ) (c : Dev nD)

section Read
variable (b : Fin 16) (q : Fin 5)
theorem bo_lt (n : Fin 64) : 64 * ((5 * b.val + q.val) % 80 / 5) + n.val < 1024 := by omega
/-- A load of a batch's block of 64 rows, at an entry. -/
theorem block_at {w : ℕ} {e : EltTy} (M : Memref sig .tc .vmem (⟨2, ![1024, w]⟩ : Shape) e) (X : Vec Ideal (⟨2, ![1024, w]⟩ : Shape) e) (n : Fin 64) (j : Fin w) :
    M.view.readAt (Elt Ideal) (Rect.unit (s := ⟨2, ![1024, w]⟩) (bo (5 * b.val + q.val)) (⟨2, ![64, w]⟩ : Shape).size (bo_inb _ w)).toLoadRect (M.view.rep X) (ix2 n j)
      = X (ix2 (⟨64 * ((5 * b.val + q.val) % 80 / 5) + n.val, bo_lt b q n⟩ : Fin 1024) j) :=
  (congrFun (View.readAt_rep_unit M.view X (bo_inb (5 * b.val + q.val) w) rfl (bo_inb (5 * b.val + q.val) w)) (ix2 n j)).trans
    (congrArg X (by
      funext a; refine Fin.ext ?_
      match a with
      | ⟨0, _⟩ => show 64 * ((5 * b.val + q.val) % 80 / 5) + 1 * n.val = 64 * ((5 * b.val + q.val) % 80 / 5) + n.val; rw [Nat.one_mul]
      | ⟨1, _⟩ => exact (Nat.zero_add _).trans (Nat.one_mul _)))
end Read
/-- A load of a whole array, at an entry. -/
theorem whole_at {h w : ℕ} {e : EltTy} (M : Memref sig .tc .vmem (⟨2, ![h, w]⟩ : Shape) e) (X : Vec Ideal (⟨2, ![h, w]⟩ : Shape) e)
    (inb : ∀ a, (![0, 0] : Fin 2 → ℕ) a + (⟨2, ![h, w]⟩ : Shape).size a ≤ (⟨2, ![h, w]⟩ : Shape).size a) (y : (⟨2, ![h, w]⟩ : Shape).Idx) :
    M.view.readAt (Elt Ideal) (Rect.unit (s := ⟨2, ![h, w]⟩) ![0, 0] (⟨2, ![h, w]⟩ : Shape).size inb).toLoadRect (M.view.rep X) y = X y :=
  congrFun (View.readAt_rep_full (Val := Elt Ideal) M.view X inb) y

/-! What the kernel reads, when its buffers stand for arrays. -/
section Inp
variable (b : Fin 16) (q : Fin 5) (fx : HB Ideal c hbX) (fm : HB Ideal c hbM) (fc : HB Ideal c hbC)
  (arg3 arg4 arg5 : Memref sig .tc .vmem S1024x1 .i32) (arg6 : Memref sig .tc .vmem S1024x8 .f32)
  (arg7 : Memref sig .tc .vmem S8x768 .f32) (arg8 arg9 arg10 : Memref sig .tc .vmem S1x768 .f32)
  (arg11 : Memref sig .tc .vmem S100x768 .f32)
  (a3 : HB Ideal c arg3) (a4 : HB Ideal c arg4) (a5 : HB Ideal c arg5) (a6 : HB Ideal c arg6) (a7 : HB Ideal c arg7) (a8 : HB Ideal c arg8)
  (a9 : HB Ideal c arg9) (a10 : HB Ideal c arg10) (a11 : HB Ideal c arg11)
theorem inOf_len (X : Vec Ideal S1024x1 .i32) (h : a3 = arg3.view.rep X) (n : Fin 64) (j : Fin 1) :
    (inOf c fx fm fc arg3 arg4 arg5 arg6 arg7 arg8 arg9 arg10 arg11 a3 a4 a5 a6 a7 a8 a9 a10 a11).len (5 * b.val + q.val) (ix2 n j) = X (ix2 (⟨64 * ((5 * b.val + q.val) % 80 / 5) + n.val, bo_lt b q n⟩ : Fin 1024) j) := by
  subst h
  exact block_at b q (w := 1) (e := .i32) arg3 X n j
theorem inOf_v (X : Vec Ideal S1024x1 .i32) (h : a4 = arg4.view.rep X) (n : Fin 64) (j : Fin 1) :
    (inOf c fx fm fc arg3 arg4 arg5 arg6 arg7 arg8 arg9 arg10 arg11 a3 a4 a5 a6 a7 a8 a9 a10 a11).v (5 * b.val + q.val) (ix2 n j) = X (ix2 (⟨64 * ((5 * b.val + q.val) % 80 / 5) + n.val, bo_lt b q n⟩ : Fin 1024) j) := by
  subst h
  exact block_at b q (w := 1) (e := .i32) arg4 X n j
theorem inOf_sid (X : Vec Ideal S1024x1 .i32) (h : a5 = arg5.view.rep X) (n : Fin 64) (j : Fin 1) :
    (inOf c fx fm fc arg3 arg4 arg5 arg6 arg7 arg8 arg9 arg10 arg11 a3 a4 a5 a6 a7 a8 a9 a10 a11).sid (5 * b.val + q.val) (ix2 n j) = X (ix2 (⟨64 * ((5 * b.val + q.val) % 80 / 5) + n.val, bo_lt b q n⟩ : Fin 1024) j) := by
  subst h
  exact block_at b q (w := 1) (e := .i32) arg5 X n j
theorem inOf_pos (X : Vec Ideal S1024x8 .f32) (h : a6 = arg6.view.rep X) (n : Fin 64) (j : Fin 8) :
    (inOf c fx fm fc arg3 arg4 arg5 arg6 arg7 arg8 arg9 arg10 arg11 a3 a4 a5 a6 a7 a8 a9 a10 a11).pos (5 * b.val + q.val) (ix2 n j) = X (ix2 (⟨64 * ((5 * b.val + q.val) % 80 / 5) + n.val, bo_lt b q n⟩ : Fin 1024) j) := by
  subst h
  exact block_at b q (w := 8) (e := .f32) arg6 X n j
theorem inOf_wpos (X : Vec Ideal S8x768 .f32) (h : a7 = arg7.view.rep X) (y : S8x768.Idx) :
    (inOf c fx fm fc arg3 arg4 arg5 arg6 arg7 arg8 arg9 arg10 arg11 a3 a4 a5 a6 a7 a8 a9 a10 a11).wpos y = X y := by
  subst h
  exact whole_at (h := 8) (w := 768) (e := .f32) arg7 X inb_S8x768_S8x768_0_0 y
theorem inOf_bpos (X : Vec Ideal S1x768 .f32) (h : a8 = arg8.view.rep X) (y : S1x768.Idx) :
    (inOf c fx fm fc arg3 arg4 arg5 arg6 arg7 arg8 arg9 arg10 arg11 a3 a4 a5 a6 a7 a8 a9 a10 a11).bpos y = X y := by
  subst h
  exact whole_at (h := 1) (w := 768) (e := .f32) arg8 X inb_S1x768_S1x768_0_0 y
theorem inOf_gam (X : Vec Ideal S1x768 .f32) (h : a9 = arg9.view.rep X) (y : S1x768.Idx) :
    (inOf c fx fm fc arg3 arg4 arg5 arg6 arg7 arg8 arg9 arg10 arg11 a3 a4 a5 a6 a7 a8 a9 a10 a11).gam y = X y := by
  subst h
  exact whole_at (h := 1) (w := 768) (e := .f32) arg9 X inb_S1x768_S1x768_0_0 y
theorem inOf_bet (X : Vec Ideal S1x768 .f32) (h : a10 = arg10.view.rep X) (y : S1x768.Idx) :
    (inOf c fx fm fc arg3 arg4 arg5 arg6 arg7 arg8 arg9 arg10 arg11 a3 a4 a5 a6 a7 a8 a9 a10 a11).bet y = X y := by
  subst h
  exact whole_at (h := 1) (w := 768) (e := .f32) arg10 X inb_S1x768_S1x768_0_0 y
theorem inOf_table (X : Vec Ideal S100x768 .f32) (h : a11 = arg11.view.rep X) (y : S100x768.Idx) :
    (inOf c fx fm fc arg3 arg4 arg5 arg6 arg7 arg8 arg9 arg10 arg11 a3 a4 a5 a6 a7 a8 a9 a10 a11).table y = X y := by
  subst h
  exact whole_at (h := 100) (w := 768) (e := .f32) arg11 X inb_S100x768_S100x768_0_0 y
end Inp

/-! A window that is a whole array reads as the array. -/
theorem blk0 : iblk m c 0 t0_0 = V m c main_call0_v13 :=
  funext fun y => congrArg (V m c main_call0_v13) (funext fun a => Fin.ext ((Pipeline.Window.rect_emb_val (win0_0) t0_0 y a rfl).trans (by
    fin_cases a <;> exact (Nat.zero_add _).trans rfl)))
theorem blk1 : iblk m c 1 t0_0 = V m c main_call0_v15 :=
  funext fun y => congrArg (V m c main_call0_v15) (funext fun a => Fin.ext ((Pipeline.Window.rect_emb_val (win0_1) t0_0 y a rfl).trans (by
    fin_cases a <;> exact (Nat.zero_add _).trans rfl)))
theorem blk2 : iblk m c 2 t0_0 = V m c main_call0_v16 :=
  funext fun y => congrArg (V m c main_call0_v16) (funext fun a => Fin.ext ((Pipeline.Window.rect_emb_val (win0_2) t0_0 y a rfl).trans (by
    fin_cases a <;> exact (Nat.zero_add _).trans rfl)))
theorem blk3 : iblk m c 3 t0_0 = V m c main_call0_v18 :=
  funext fun y => congrArg (V m c main_call0_v18) (funext fun a => Fin.ext ((Pipeline.Window.rect_emb_val (win0_3) t0_0 y a rfl).trans (by
    fin_cases a <;> exact (Nat.zero_add _).trans rfl)))
theorem blk4 : iblk m c 4 t0_0 = V m c main_call0_v19 :=
  funext fun y => congrArg (V m c main_call0_v19) (funext fun a => Fin.ext ((Pipeline.Window.rect_emb_val (win0_4) t0_0 y a rfl).trans (by
    fin_cases a <;> exact (Nat.zero_add _).trans rfl)))
theorem blk5 : iblk m c 5 t0_0 = V m c main_call0_v20 :=
  funext fun y => congrArg (V m c main_call0_v20) (funext fun a => Fin.ext ((Pipeline.Window.rect_emb_val (win0_5) t0_0 y a rfl).trans (by
    fin_cases a <;> exact (Nat.zero_add _).trans rfl)))
theorem blk6 : iblk m c 6 t0_0 = V m c main_call0_v21 :=
  funext fun y => congrArg (V m c main_call0_v21) (funext fun a => Fin.ext ((Pipeline.Window.rect_emb_val (win0_6) t0_0 y a rfl).trans (by
    fin_cases a <;> exact (Nat.zero_add _).trans rfl)))
theorem blk7 : iblk m c 7 t0_0 = V m c main_call0_v22 :=
  funext fun y => congrArg (V m c main_call0_v22) (funext fun a => Fin.ext ((Pipeline.Window.rect_emb_val (win0_7) t0_0 y a rfl).trans (by
    fin_cases a <;> exact (Nat.zero_add _).trans rfl)))
theorem blk8 : iblk m c 8 t0_0 = V m c main_arg14 :=
  funext fun y => congrArg (V m c main_arg14) (funext fun a => Fin.ext ((Pipeline.Window.rect_emb_val (win0_8) t0_0 y a rfl).trans (by
    fin_cases a <;> exact (Nat.zero_add _).trans rfl)))

section Chunk
variable (b : Fin 16) (q : Fin 5)
theorem xo_lt (r : Fin 640) : 640 * ((5 * b.val + q.val) % 80) + r.val < 51200 := by omega
theorem bo_eq (n : Fin 64) : 64 * ((5 * b.val + q.val) % 80 / 5) + n.val = 64 * b.val + n.val := by omega
theorem xo_eq (r : Fin 640) (t : Fin 50) (v : Fin 64) (h : 640 * q.val + r.val = 64 * t.val + v.val) :
    640 * ((5 * b.val + q.val) % 80) + r.val = 3200 * b.val + 64 * t.val + v.val := by omega
theorem in_x (r : Fin 640) (t : Fin 50) (v : Fin 64) (j : Fin 768) (h : 640 * q.val + r.val = 64 * t.val + v.val) :
    (inputs m c t0_0).x (5 * b.val + q.val) (ix2 r j) = m ((c : Thread nD τ).loc main_arg2) (ix4 b t v j) := by
  rw [← V_x m c ⟨_, xo_lt b q r⟩ j b t v (xo_eq b q r t v h)]
  refine congrArg (V m c main_call0_v0) (funext fun a => Fin.ext ?_)
  match a with
  | ⟨0, _⟩ => show 640 * ((5 * b.val + q.val) % 80) + 1 * r.val = 640 * ((5 * b.val + q.val) % 80) + r.val; rw [Nat.one_mul]
  | ⟨1, _⟩ => exact (Nat.zero_add _).trans (Nat.one_mul _)
theorem in_m (r : Fin 640) (t : Fin 50) (v : Fin 64) (h : 640 * q.val + r.val = 64 * t.val + v.val) :
    (inputs m c t0_0).m (5 * b.val + q.val) (ix2 r 0) = FloatOps.uitofp (F := Ideal) FTy.f32 (IntOp.cmpi .slt (BitVec.ofNat 32 v.val)
      (IntOp.maxsi (m ((c : Thread nD τ).loc main_arg3) (ix2 b t)) 1#32)) := by
  rw [← V_m m c ⟨_, xo_lt b q r⟩ b t v (xo_eq b q r t v h)]
  refine congrArg (V m c main_call0_v10) (funext fun a => Fin.ext ?_)
  match a with
  | ⟨0, _⟩ => show 640 * ((5 * b.val + q.val) % 80) + 1 * r.val = 640 * ((5 * b.val + q.val) % 80) + r.val; rw [Nat.one_mul]
  | ⟨1, _⟩ => exact (Nat.zero_add _).trans (Nat.one_mul _)
theorem in_d (r : Fin 640) (t : Fin 50) (v : Fin 64) (h : 640 * q.val + r.val = 64 * t.val + v.val) :
    (inputs m c t0_0).d (5 * b.val + q.val) (ix2 r 0) = m ((c : Thread nD τ).loc main_arg5) (ix3 b t v) := by
  rw [← V_d m c ⟨_, xo_lt b q r⟩ b t v (xo_eq b q r t v h)]
  refine congrArg (V m c main_call0_v11) (funext fun a => Fin.ext ?_)
  match a with
  | ⟨0, _⟩ => show 640 * ((5 * b.val + q.val) % 80) + 1 * r.val = 640 * ((5 * b.val + q.val) % 80) + r.val; rw [Nat.one_mul]
  | ⟨1, _⟩ => exact (Nat.zero_add _).trans (Nat.one_mul _)
theorem len_blk (t : Fin cfg0.N) (n : Fin 64) (j : Fin 1) : (inputs m c t).len (5 * b.val + q.val) (ix2 n j)
    = (iblk m c 0 t : Vec Ideal S1024x1 .i32) (ix2 (⟨64 * ((5 * b.val + q.val) % 80 / 5) + n.val, bo_lt b q n⟩ : Fin 1024) j) := by
  unfold inputs
  exact inOf_len c b q _ _ _ _ _ _ _ _ _ _ _ _ _ _ _ _ _ _ _ _ _ (iblk m c 0 t : Vec Ideal S1024x1 .i32) rfl n j
theorem v_blk (t : Fin cfg0.N) (n : Fin 64) (j : Fin 1) : (inputs m c t).v (5 * b.val + q.val) (ix2 n j)
    = (iblk m c 1 t : Vec Ideal S1024x1 .i32) (ix2 (⟨64 * ((5 * b.val + q.val) % 80 / 5) + n.val, bo_lt b q n⟩ : Fin 1024) j) := by
  unfold inputs
  exact inOf_v c b q _ _ _ _ _ _ _ _ _ _ _ _ _ _ _ _ _ _ _ _ _ (iblk m c 1 t : Vec Ideal S1024x1 .i32) rfl n j
theorem sid_blk (t : Fin cfg0.N) (n : Fin 64) (j : Fin 1) : (inputs m c t).sid (5 * b.val + q.val) (ix2 n j)
    = (iblk m c 2 t : Vec Ideal S1024x1 .i32) (ix2 (⟨64 * ((5 * b.val + q.val) % 80 / 5) + n.val, bo_lt b q n⟩ : Fin 1024) j) := by
  unfold inputs
  exact inOf_sid c b q _ _ _ _ _ _ _ _ _ _ _ _ _ _ _ _ _ _ _ _ _ (iblk m c 2 t : Vec Ideal S1024x1 .i32) rfl n j
theorem pos_blk (t : Fin cfg0.N) (n : Fin 64) (j : Fin 8) : (inputs m c t).pos (5 * b.val + q.val) (ix2 n j)
    = (iblk m c 3 t : Vec Ideal S1024x8 .f32) (ix2 (⟨64 * ((5 * b.val + q.val) % 80 / 5) + n.val, bo_lt b q n⟩ : Fin 1024) j) := by
  unfold inputs
  exact inOf_pos c b q _ _ _ _ _ _ _ _ _ _ _ _ _ _ _ _ _ _ _ _ _ (iblk m c 3 t : Vec Ideal S1024x8 .f32) rfl n j
theorem in_len (n : Fin 64) :
    (inputs m c t0_0).len (5 * b.val + q.val) (ix2 n 0) = if h : n.val < 50 then m ((c : Thread nD τ).loc main_arg3) (ix2 b ⟨n.val, h⟩) else 1#32 :=
  (len_blk m c b q t0_0 n 0).trans
    ((congrFun (blk0 m c) _).trans (V_len m c ⟨_, bo_lt b q n⟩ b n (bo_eq b q n)))
theorem in_v (n : Fin 64) :
    (inputs m c t0_0).v (5 * b.val + q.val) (ix2 n 0) = if h : n.val < 50 then m ((c : Thread nD τ).loc main_arg4) (ix2 b ⟨n.val, h⟩) else 4294967294#32 :=
  (v_blk m c b q t0_0 n 0).trans
    ((congrFun (blk1 m c) _).trans (V_v m c ⟨_, bo_lt b q n⟩ b n (bo_eq b q n)))
theorem in_sid (n : Fin 64) :
    (inputs m c t0_0).sid (5 * b.val + q.val) (ix2 n 0) = m ((c : Thread nD τ).loc main_arg7) (ix2 b n) :=
  (sid_blk m c b q t0_0 n 0).trans
    ((congrFun (blk2 m c) _).trans (V_sid m c ⟨_, bo_lt b q n⟩ b n (bo_eq b q n)))
theorem in_pos (n : Fin 64) (j : Fin 8) :
    (inputs m c t0_0).pos (5 * b.val + q.val) (ix2 n j) = if h : j.val < 7 then m ((c : Thread nD τ).loc main_arg8) (ix3 b n ⟨j.val, h⟩) else FloatOps.sitofp (F := Ideal) FTy.f32 0#32 :=
  (pos_blk m c b q t0_0 n j).trans
    ((congrFun (blk3 m c) _).trans (V_pos m c ⟨_, bo_lt b q n⟩ b n j (bo_eq b q n)))
end Chunk
theorem wpos_blk (t : Fin cfg0.N) (y : S8x768.Idx) : (inputs m c t).wpos y = (iblk m c 4 t : Vec Ideal S8x768 .f32) y := by
  unfold inputs
  exact inOf_wpos c _ _ _ _ _ _ _ _ _ _ _ _ _ _ _ _ _ _ _ _ _ (iblk m c 4 t : Vec Ideal S8x768 .f32) rfl y
theorem in_wpos (r : Fin 8) (j : Fin 768) :
    (inputs m c t0_0).wpos (ix2 r j) = if h : r.val < 7 then m ((c : Thread nD τ).loc main_arg10) (ix2 ⟨r.val, h⟩ j) else FloatOps.sitofp (F := Ideal) FTy.f32 0#32 :=
  (wpos_blk m c t0_0 _).trans ((congrFun (blk4 m c) _).trans (V_wpos m c r j))
theorem bpos_blk (t : Fin cfg0.N) (y : S1x768.Idx) : (inputs m c t).bpos y = (iblk m c 5 t : Vec Ideal S1x768 .f32) y := by
  unfold inputs
  exact inOf_bpos c _ _ _ _ _ _ _ _ _ _ _ _ _ _ _ _ _ _ _ _ _ (iblk m c 5 t : Vec Ideal S1x768 .f32) rfl y
theorem in_bpos (j : Fin 768) :
    (inputs m c t0_0).bpos (ix2 0 j) = m ((c : Thread nD τ).loc main_arg11) (ix1 j) :=
  (bpos_blk m c t0_0 _).trans ((congrFun (blk5 m c) _).trans (V_bpos m c j))
theorem gam_blk (t : Fin cfg0.N) (y : S1x768.Idx) : (inputs m c t).gam y = (iblk m c 6 t : Vec Ideal S1x768 .f32) y := by
  unfold inputs
  exact inOf_gam c _ _ _ _ _ _ _ _ _ _ _ _ _ _ _ _ _ _ _ _ _ (iblk m c 6 t : Vec Ideal S1x768 .f32) rfl y
theorem in_gam (j : Fin 768) :
    (inputs m c t0_0).gam (ix2 0 j) = m ((c : Thread nD τ).loc main_arg12) (ix1 j) :=
  (gam_blk m c t0_0 _).trans ((congrFun (blk6 m c) _).trans (V_gam m c j))
theorem bet_blk (t : Fin cfg0.N) (y : S1x768.Idx) : (inputs m c t).bet y = (iblk m c 7 t : Vec Ideal S1x768 .f32) y := by
  unfold inputs
  exact inOf_bet c _ _ _ _ _ _ _ _ _ _ _ _ _ _ _ _ _ _ _ _ _ (iblk m c 7 t : Vec Ideal S1x768 .f32) rfl y
theorem in_bet (j : Fin 768) :
    (inputs m c t0_0).bet (ix2 0 j) = m ((c : Thread nD τ).loc main_arg13) (ix1 j) :=
  (bet_blk m c t0_0 _).trans ((congrFun (blk7 m c) _).trans (V_bet m c j))
theorem table_blk (t : Fin cfg0.N) (y : S100x768.Idx) : (inputs m c t).table y = (iblk m c 8 t : Vec Ideal S100x768 .f32) y := by
  unfold inputs
  exact inOf_table c _ _ _ _ _ _ _ _ _ _ _ _ _ _ _ _ _ _ _ _ _ (iblk m c 8 t : Vec Ideal S100x768 .f32) rfl y
theorem in_table (r : Fin 100) (j : Fin 768) :
    (inputs m c t0_0).table (ix2 r j) = m ((c : Thread nD τ).loc main_arg14) (ix2 r j) :=
  (table_blk m c t0_0 _).trans ((congrFun (blk8 m c) _).trans (congrFun (V_main_arg14 m c) _))
end Cert.Agg
end
-- ==== Proof.KPay.lean ====
module
public import proofs.«01_k».proof.Proof.Names
public import Idealize.ShloMosaic.Lib.Pointwise

/-! # The functions of a chunk over the ideal values, at an index -/

@[expose] public section
set_option maxRecDepth 16384
noncomputable section
namespace Cert.Agg
open Cert.KernelIdeal Cert.KernelIdeal.Gen
open Idealize.ShloMosaic Idealize.ShloMosaic.TcCoe

/-! ## Words -/

theorem pick_eq {α : Type} (a b : BitVec 32) (x y : α) : Scalar.select (IntOp.cmpi .eq a b) x y = if a = b then x else y := by
  rw [WordCmp.cmpi_eq_eq, WordCmp.select_decide]
/-- The bit of an equation, as a number. -/
theorem bit_eq (a b : BitVec 32) :
    FloatOps.sitofp (F := Ideal) FTy.f32 (BitVec.setWidth 32 (IntOp.cmpi .eq a b)) = if a = b then (1 : EReal) else 0 := by
  rw [WordCmp.cmpi_eq_eq]
  by_cases h : a = b
  · rw [if_pos h, decide_eq_true h]
    show (((BitVec.setWidth 32 (BitVec.ofBool true)).toInt : ℝ) : EReal) = 1
    rw [show (BitVec.setWidth 32 (BitVec.ofBool true)).toInt = 1 from rfl]; simp
  · rw [if_neg h, decide_eq_false h]
    show (((BitVec.setWidth 32 (BitVec.ofBool false)).toInt : ℝ) : EReal) = 0
    rw [show (BitVec.setWidth 32 (BitVec.ofBool false)).toInt = 0 from rfl]; simp
/-- A sum of picked terms of which one is picked. -/
theorem sum_bit {K : ℕ} (w : BitVec 32) (f : Fin K → EReal) (k : Fin K) (hK : K < 2 ^ 32) (h : w = BitVec.ofNat 32 k.val) :
    ∑ x : Fin K, (if w = BitVec.ofNat 32 x.val then (1 : EReal) else 0) * f x = f k := by
  rw [Finset.sum_eq_single k]
  · rw [if_pos h, one_mul]
  · intro x _ hx
    rw [if_neg, zero_mul]
    rw [h]
    intro e
    have := congrArg BitVec.toNat e
    rw [BitVec.toNat_ofNat, BitVec.toNat_ofNat, Nat.mod_eq_of_lt (by omega), Nat.mod_eq_of_lt (by omega)] at this
    exact hx (Fin.ext this.symm)
  · intro h; exact absurd (Finset.mem_univ _) h

theorem maxsi_le {a b c : BitVec 32} (ha : a.toInt ≤ c.toInt) (hb : b.toInt ≤ c.toInt) : (IntOp.maxsi a b).toInt ≤ c.toInt := by
  unfold IntOp.maxsi; split <;> assumption
theorem le_maxsi (a b : BitVec 32) : a.toInt ≤ (IntOp.maxsi a b).toInt ∧ b.toInt ≤ (IntOp.maxsi a b).toInt := by
  unfold IntOp.maxsi
  by_cases h : b.slt a = true
  · rw [if_pos h]; rw [BitVec.slt, decide_eq_true_eq] at h; omega
  · rw [if_neg h]; rw [BitVec.slt, decide_eq_true_eq] at h; omega
/-- The largest of some words is the one of them that none exceeds. -/
theorem fold_max {ι : Type} [DecidableEq ι] (s : Finset ι) (f : ι → BitVec 32) (a : BitVec 32) (h : ∀ x ∈ s, (f x).toInt ≤ a.toInt)
    (k : ι) (hk : k ∈ s) (e : f k = a) : Finset.fold IntOp.maxsi 2147483648#32 f s = a := by
  have up : ∀ s : Finset ι, (∀ x ∈ s, (f x).toInt ≤ a.toInt) → (Finset.fold IntOp.maxsi 2147483648#32 f s).toInt ≤ a.toInt := by
    intro s
    induction s using Finset.induction_on with
    | empty =>
      intro _
      rw [Finset.fold_empty]
      have := BitVec.le_toInt a
      show (-2147483648 : Int) ≤ a.toInt
      simpa using this
    | insert x s hx ih =>
      intro h
      rw [Finset.fold_insert hx]
      exact maxsi_le (h x (Finset.mem_insert_self _ _)) (ih fun y hy => h y (Finset.mem_insert_of_mem hy))
  have lo : ∀ s : Finset ι, k ∈ s → (f k).toInt ≤ (Finset.fold IntOp.maxsi 2147483648#32 f s).toInt := by
    intro s hs
    rw [← Finset.insert_erase hs, Finset.fold_insert (Finset.notMem_erase _ _)]
    exact (le_maxsi _ _).1
  have h1 := lo s hk
  rw [e] at h1
  exact BitVec.toInt_inj.1 (le_antisymm (up s h) h1)

/-! ## The functions -/

theorem candPart_at (x : Vec Ideal S640x768 .f32) (m : Vec Ideal S640x1 .f32) (d : Vec Ideal S640x1 .i32) (n : Fin 64) (j : Fin 768) :
    (candPart x m d (ix2 n j) : EReal) = ∑ r : Fin 640, if d (ix2 r 0) = BitVec.ofNat 32 n.val then (m (ix2 r 0) * x (ix2 r j) : EReal) else 0 := by
  pointwise [candPart, k0_pay22, k0_pay21]
  exact Finset.sum_congr rfl fun _ _ => pick_eq _ _ _ _
theorem cntPart_at (m : Vec Ideal S640x1 .f32) (d : Vec Ideal S640x1 .i32) (n : Fin 64) :
    (cntPart m d (ix2 0 n) : EReal) = ∑ r : Fin 640, if d (ix2 r 0) = BitVec.ofNat 32 n.val then (m (ix2 r 0) : EReal) else 0 := by
  pointwise [cntPart, k0_pay23, k0_pay21]
  exact Finset.sum_congr rfl fun _ _ => pick_eq _ _ _ _
/-- The row of the table that a word of its range picks. -/
theorem step_at (sid : Vec Ideal S64x1 .i32) (t : Vec Ideal S100x768 .f32) (n : Fin 64) (j : Fin 768) (k : Fin 100) (h : sid (ix2 n 0) = BitVec.ofNat 32 k.val) :
    (k0_pay10 sid t (ix2 n j) : EReal) = t (ix2 k j) := by
  pointwise [k0_pay10]
  refine Eq.trans (Finset.sum_congr rfl fun x _ => congrArg (· * (t (ix2 x j) : EReal)) (bit_eq _ _)) ?_
  exact sum_bit _ (fun x => (t (ix2 x j) : EReal)) k (by decide) h
theorem steps_at (x : Vec Ideal S640x768 .f32) (m : Vec Ideal S640x1 .f32) (q : Fin 10) (j : Fin 768) :
    (k0_pay24 x m (ix2 q j) : EReal) = ∑ v : Fin 64, x (ix2 ⟨q.val * 64 + v.val, by omega⟩ j) * m (ix2 ⟨q.val * 64 + v.val, by omega⟩ 0) := by
  pointwise [k0_pay24]
theorem last_at (v : Vec Ideal S64x1 .i32) (n : Fin 64) :
    k0_pay25 (F := Ideal) v (ix2 n 0) = Finset.fold IntOp.maxsi 2147483648#32
      (fun x : Fin 64 => if v (ix2 x 0) + 1#32 = BitVec.ofNat 32 n.val then BitVec.ofNat 32 x.val + 1#32 else 0#32) Finset.univ := by
  pointwise [k0_pay25]
  exact Finset.fold_congr fun x _ => pick_eq _ _ _ _
theorem vis_at (w : BitVec 32) (x : Vec Ideal S640x768 .f32) (m : Vec Ideal S640x1 .f32) (v : Vec Ideal S64x1 .i32) (n : Fin 64) (j : Fin 768) :
    (visPart w x m v (ix2 n j) : EReal) = ∑ s : Fin 10, if k0_pay25 (F := Ideal) v (ix2 n 0) - 1#32 - w * 10#32 = BitVec.ofNat 32 s.val ∧ 0 < (k0_pay25 (F := Ideal) v (ix2 n 0)).toInt
      then (k0_pay24 x m (ix2 s j) : EReal) else 0 := by
  pointwise [visPart, k0_pay27, k0_pay26]
  refine Finset.sum_congr rfl fun s _ => ?_
  rw [WordCmp.cmpi_eq_eq, WordCmp.cmpi_sgt_eq]
  generalize k0_pay25 (F := Ideal) v (ix2 n 0) = u
  show Scalar.select (BitVec.ofBool (decide (u - 1#32 - w * 10#32 = BitVec.ofNat 32 s.val)) &&& BitVec.ofBool (decide (0 < u.toInt))) _ _ = _
  by_cases h1 : u - 1#32 - w * 10#32 = BitVec.ofNat 32 s.val <;> by_cases h2 : 0 < u.toInt <;>
    simp only [h1, h2, decide_true, decide_false, true_and, false_and, if_true, if_false, and_self, and_true, and_false] <;> rfl
theorem agg_at (t len : Vec Ideal S64x1 .i32) (a : Vec Ideal S64x768 .f32) (b : Vec Ideal S1x64 .f32) (c : Vec Ideal S64x768 .f32) (n : Fin 64) (j : Fin 768) :
    (k0_pay9 t len a b c (ix2 n j) : EReal) = if n.val = 0 then 0 else if 0 < (t (ix2 n 0)).toInt then
      Ideal.div (c (ix2 n j)) (max (∑ x : Fin 64, (if t (ix2 n 0) - 1#32 = BitVec.ofNat 32 x.val then (1 : EReal) else 0)
        * FloatOps.sitofp (F := Ideal) FTy.f32 (IntOp.maxsi (len (ix2 x 0)) 1#32)) 1) else Ideal.div (a (ix2 n j)) (max (b (ix2 0 n)) 1) := by
  pointwise [k0_pay9]
  rw [pick_eq, WordCmp.cmpi_sgt_eq, WordCmp.select_decide]
  refine if_congr ?_ rfl (if_congr Iff.rfl (congrArg (fun z => Ideal.div (c (ix2 n j)) (max z 1)) (Finset.sum_congr rfl fun x _ => ?_)) rfl)
  · constructor
    · intro h
      have := congrArg BitVec.toNat h
      rw [BitVec.toNat_ofNat, Nat.mod_eq_of_lt (by omega)] at this
      exact this
    · intro h; rw [h]
  · exact congrArg (· * FloatOps.sitofp (F := Ideal) FTy.f32 (IntOp.maxsi (len (ix2 x 0)) 1#32)) (bit_eq _ _)

/-- A row normalised. -/
def lnorm (z : Fin 768 → EReal) (j : Fin 768) : EReal :=
  Ideal.div (z j - Ideal.div (∑ x, z x) (Ideal.ofBits FTy.f32 1145044992#32))
    (Ideal.sqrt (Ideal.div (∑ x, (z x - Ideal.div (∑ x, z x) (Ideal.ofBits FTy.f32 1145044992#32)) * (z x - Ideal.div (∑ x, z x) (Ideal.ofBits FTy.f32 1145044992#32)))
      (Ideal.ofBits FTy.f32 1145044992#32) + Ideal.ofBits FTy.f32 730643660#32))
theorem norm_at (p : Vec Ideal S64x8 .f32) (w : Vec Ideal S8x768 .f32) (b g : Vec Ideal S1x768 .f32) (n : Fin 64) (j : Fin 768) :
    (k0_pay11 p w b g (ix2 n j) : EReal) = lnorm (fun x => ∑ r : Fin 8, p (ix2 n r) * w (ix2 r x) + b (ix2 0 x)) j * g (ix2 0 j) := by
  pointwise [k0_pay11]
  rfl
theorem row_at (p q r: Vec Ideal S64x768 .f32) (e : Vec Ideal S1x768 .f32) (n : Fin 64) (j : Fin 768) :
    k0_pay34 p q r e (ix2 n j) = p (ix2 n j) + q (ix2 n j) + (r (ix2 n j) + e (ix2 0 j)) := by
  pointwise [k0_pay34]
  try rfl
theorem addTo_at (p o: Vec Ideal S64x768 .f32) (n : Fin 64) (j : Fin 768) :
    addTo p o (ix2 n j) = o (ix2 n j) + p (ix2 n j)  := by
  pointwise [addTo, k0_pay31]
theorem addToN_at (p o: Vec Ideal S1x64 .f32) (n : Fin 64) :
    addToN p o (ix2 0 n) = o (ix2 0 n) + p (ix2 0 n)  := by
  pointwise [addToN, k0_pay33]
theorem keep_at (p : Vec Ideal S64x768 .f32) (n : Fin 64) (j : Fin 768) :
    (keep (F := Ideal) p (ix2 n j) : EReal) = p (ix2 n j)  := by
  pointwise [keep, k0_pay28]
theorem keepN_at (p : Vec Ideal S1x64 .f32) (n : Fin 64) :
    (keepN (F := Ideal) p (ix2 0 n) : EReal) = p (ix2 0 n)  := by
  pointwise [keepN, k0_pay30]
end Cert.Agg
end
-- ==== Proof.Spec.lean ====
module
public import proofs.«01_k».proof.Proof.KPay

/-! # The map embedding, on plain data

`X` holds the features of view `v` at step `t` of batch `b`, `L` the steps' lengths, `P` the nodes visited, `C` the views' candidate nodes, `Q` the
positions, `W`, `β`, `γ`, `δ` the projection and the normalisation. -/

@[expose] public section
noncomputable section
namespace Cert.Agg
open Idealize.ShloMosaic

variable (X : (⟨4, ![16, 50, 64, 768]⟩ : Shape).Idx → EReal) (L P : (⟨2, ![16, 50]⟩ : Shape).Idx → BitVec 32)
  (C : (⟨3, ![16, 50, 64]⟩ : Shape).Idx → BitVec 32) (Q : (⟨3, ![16, 64, 7]⟩ : Shape).Idx → EReal) (W : (⟨2, ![7, 768]⟩ : Shape).Idx → EReal)
  (β : (⟨1, ![768]⟩ : Shape).Idx → EReal) (b : Fin 16) (n : Fin 64) (t : Fin 50) (v : Fin 64) (j : Fin 768)

/-- A step's length, at least one. -/
def len : BitVec 32 := IntOp.maxsi (L (ix2 b t)) 1#32
/-- Whether view `v` counts at step `t`. -/
def mask : EReal := FloatOps.uitofp (F := Ideal) FTy.f32 (IntOp.cmpi .slt (BitVec.ofNat 32 v.val) (len L b t))
/-- The features of the views that count. -/
def stepSum : EReal := ∑ v : Fin 64, X (ix4 b t v j) * mask L b t v
/-- A visited node's features: the mean over the views of the step. -/
def visited : EReal := Ideal.div (stepSum X L b t j) (FloatOps.sitofp (F := Ideal) FTy.f32 (len L b t))
/-- The features, and the number, of the views whose candidate is node `n`. -/
def candSum : EReal := ∑ t : Fin 50, ∑ v : Fin 64, if C (ix3 b t v) = BitVec.ofNat 32 n.val then X (ix4 b t v j) * mask L b t v else 0
def candCnt : EReal := ∑ t : Fin 50, ∑ v : Fin 64, if C (ix3 b t v) = BitVec.ofNat 32 n.val then mask L b t v else 0
/-- A node that was not visited: the mean over the views it is a candidate of. -/
def unvisited : EReal := Ideal.div (candSum X L C b n j) (max (candCnt L C b n) 1)
/-- The projection of a node's position. -/
def proj : EReal := ∑ r : Fin 7, Q (ix3 b n r) * W (ix2 r j) + β (ix1 j)

/-- An entry of the result, from the node's image features and the row of the step table. -/
def entry (γ δ : (⟨1, ![768]⟩ : Shape).Idx → EReal) (T : (⟨2, ![100, 768]⟩ : Shape).Idx → EReal) (img : EReal) (k : Fin 100) : EReal :=
  img + T (ix2 k j) + (lnorm (proj Q W β b n) j * γ (ix1 j) + δ (ix1 j))

/-- Step `t` is the last at which node `n` is visited. -/
def IsLast : Prop := P (ix2 b t) + 1#32 = BitVec.ofNat 32 n.val ∧ ∀ t' : Fin 50, t < t' → P (ix2 b t') + 1#32 ≠ BitVec.ofNat 32 n.val
/-- Node `n` is never visited. -/
def Never : Prop := ∀ t : Fin 50, P (ix2 b t) + 1#32 ≠ BitVec.ofNat 32 n.val

/-- A node's image features: node 0 has none, a visited node those of its last visit, another the mean over its candidates. -/
def IsImg (img : EReal) : Prop := (∃ t, IsLast P b n t ∧ img = visited X L b t j) ∨ (Never P b n ∧ img = unvisited X L C b n j)

theorem last_or_never : (∃ t, IsLast P b n t) ∨ Never P b n := by
  by_cases h : Never P b n
  · exact .inr h
  · refine .inl ?_
    have hne : (Finset.univ.filter fun t : Fin 50 => P (ix2 b t) + 1#32 = BitVec.ofNat 32 n.val).Nonempty := by
      by_contra he
      rw [Finset.not_nonempty_iff_eq_empty, Finset.filter_eq_empty_iff] at he
      exact h fun t => he (Finset.mem_univ t)
    refine ⟨_, (Finset.mem_filter.1 (Finset.max'_mem _ hne)).2, fun t' ht' e => ?_⟩
    exact absurd (Finset.le_max' _ t' (Finset.mem_filter.2 ⟨Finset.mem_univ _, e⟩)) (not_le.2 ht')
theorem exists_img : ∃ img, IsImg X L P C b n j img := by
  rcases last_or_never P b n with ⟨t, h⟩ | h
  · exact ⟨_, .inl ⟨t, h, rfl⟩⟩
  · exact ⟨_, .inr ⟨h, rfl⟩⟩
end Cert.Agg
end
-- ==== Proof.KAt.lean ====
module
public import proofs.«01_k».proof.Proof.InAt
public import proofs.«01_k».proof.Proof.Spec
public import proofs.«01_k».proof.Proof.Result

/-! # What the kernel computes, over the ideal values -/

@[expose] public section
set_option maxRecDepth 16384
noncomputable section
namespace Cert.Agg
open Cert.KernelIdeal Cert.KernelIdeal.Gen
open Idealize.ShloMosaic Idealize.ShloMosaic.TcCoe

section Acc
variable (D : Inputs Ideal) (a : Vec Ideal S64x768 .f32) (e : Vec Ideal S1x64 .f32) (b : ℕ) (n : Fin 64) (j : Fin 768)
/-- The accumulators after a batch's five chunks. -/
theorem candAt_sum : (candAt D a (5 * b + 4 + 1) (ix2 n j) : EReal)
    = ∑ q : Fin 5, (candPart (D.x (5 * b + q.val)) (D.m (5 * b + q.val)) (D.d (5 * b + q.val)) (ix2 n j) : EReal) := by
  rw [Fin.sum_univ_five, cand_more (by omega), addTo_at, cand_more (i := 5 * b + 3) (by omega), addTo_at, cand_more (i := 5 * b + 2) (by omega), addTo_at,
    cand_more (i := 5 * b + 1) (by omega), addTo_at, cand_first (i := 5 * b) (by omega), keep_at]
  rfl
theorem visAt_sum : (visAt D a (5 * b + 4 + 1) (ix2 n j) : EReal)
    = ∑ q : Fin 5, (visPart (BitVec.ofNat 32 q.val) (D.x (5 * b + q.val)) (D.m (5 * b + q.val)) (D.v (5 * b + q.val)) (ix2 n j) : EReal) := by
  rw [Fin.sum_univ_five, vis_more (by omega), addTo_at, vis_more (i := 5 * b + 3) (by omega), addTo_at, vis_more (i := 5 * b + 2) (by omega), addTo_at,
    vis_more (i := 5 * b + 1) (by omega), addTo_at, vis_first (i := 5 * b) (by omega), keep_at,
    show (5 * b + 4) % 5 = 4 by omega, show (5 * b + 3) % 5 = 3 by omega, show (5 * b + 2) % 5 = 2 by omega, show (5 * b + 1) % 5 = 1 by omega,
    show (5 * b) % 5 = 0 by omega]
  rfl
theorem cntAt_sum : (cntAt D e (5 * b + 4 + 1) (ix2 0 n) : EReal)
    = ∑ q : Fin 5, (cntPart (D.m (5 * b + q.val)) (D.d (5 * b + q.val)) (ix2 0 n) : EReal) := by
  rw [Fin.sum_univ_five, cnt_more (by omega), addToN_at, cnt_more (i := 5 * b + 3) (by omega), addToN_at, cnt_more (i := 5 * b + 2) (by omega), addToN_at,
    cnt_more (i := 5 * b + 1) (by omega), addToN_at, cnt_first (i := 5 * b) (by omega), keepN_at]
  rfl
end Acc

variable (m : (ℓ : Loc nD τ sig) → Buf (Elt Ideal) ℓ) (c : Dev nD) (b : Fin 16) (n : Fin 64) (j : Fin 768)
abbrev aX : (⟨4, ![16, 50, 64, 768]⟩ : Shape).Idx → EReal := m ((c : Thread nD τ).loc main_arg2)
abbrev aL : (⟨2, ![16, 50]⟩ : Shape).Idx → BitVec 32 := m ((c : Thread nD τ).loc main_arg3)
abbrev aP : (⟨2, ![16, 50]⟩ : Shape).Idx → BitVec 32 := m ((c : Thread nD τ).loc main_arg4)
abbrev aC : (⟨3, ![16, 50, 64]⟩ : Shape).Idx → BitVec 32 := m ((c : Thread nD τ).loc main_arg5)

/-- The step that row `64 * s + v` of chunk `q` belongs to. -/
abbrev stepOf (q : Fin 5) (s : Fin 10) : Fin 50 := ⟨q.val * 10 + s.val, by omega⟩
abbrev rowIn (s : Fin 10) (v : Fin 64) : Fin 640 := ⟨s.val * 64 + v.val, by omega⟩
theorem row_step (q : Fin 5) (s : Fin 10) (v : Fin 64) : 640 * q.val + (rowIn s v).val = 64 * (stepOf q s).val + v.val := by
  show 640 * q.val + (s.val * 64 + v.val) = 64 * (q.val * 10 + s.val) + v.val; omega

theorem cand_eq (a : Vec Ideal S64x768 .f32) : (candAt (inputs m c t0_0) a (5 * b.val + 4 + 1) (ix2 n j) : EReal) = candSum (aX m c) (aL m c) (aC m c) b n j := by
  rw [candAt_sum]
  refine Eq.trans (Finset.sum_congr rfl fun q _ => ?_) (Fin.sum_univ_tiles 5 10 rfl _).symm
  rw [candPart_at, Fin.sum_univ_tiles 10 64 rfl]
  refine Finset.sum_congr rfl fun s _ => Finset.sum_congr rfl fun v _ => ?_
  rw [in_d m c b q (rowIn s v) (stepOf q s) v (row_step q s v), in_m m c b q (rowIn s v) (stepOf q s) v (row_step q s v),
    in_x m c b q (rowIn s v) (stepOf q s) v j (row_step q s v)]
  exact if_congr Iff.rfl (mul_comm _ _) rfl
theorem cnt_eq (e : Vec Ideal S1x64 .f32) : (cntAt (inputs m c t0_0) e (5 * b.val + 4 + 1) (ix2 0 n) : EReal) = candCnt (aL m c) (aC m c) b n := by
  rw [cntAt_sum]
  refine Eq.trans (Finset.sum_congr rfl fun q _ => ?_) (Fin.sum_univ_tiles 5 10 rfl _).symm
  rw [cntPart_at, Fin.sum_univ_tiles 10 64 rfl]
  refine Finset.sum_congr rfl fun s _ => Finset.sum_congr rfl fun v _ => ?_
  rw [in_d m c b q (rowIn s v) (stepOf q s) v (row_step q s v), in_m m c b q (rowIn s v) (stepOf q s) v (row_step q s v)]
  rfl
theorem steps_eq (q : Fin 5) (s : Fin 10) : (k0_pay24 ((inputs m c t0_0).x (5 * b.val + q.val)) ((inputs m c t0_0).m (5 * b.val + q.val)) (ix2 s j) : EReal) = stepSum (aX m c) (aL m c) b (stepOf q s) j := by
  rw [steps_at]
  refine Finset.sum_congr rfl fun v _ => ?_
  rw [in_m m c b q (rowIn s v) (stepOf q s) v (row_step q s v), in_x m c b q (rowIn s v) (stepOf q s) v j (row_step q s v)]
  rfl

theorem small_toInt (k : ℕ) (h : k < 1000) : (BitVec.ofNat 32 k).toInt = k := WordCmp.toInt_ofNat_of_lt (by omega)
theorem small_inj {k l : ℕ} (hk : k < 1000) (hl : l < 1000) (h : BitVec.ofNat 32 k = BitVec.ofNat 32 l) : k = l := by
  have := congrArg BitVec.toInt h
  rw [small_toInt k hk, small_toInt l hl] at this
  omega
theorem succ_word (k : ℕ) : BitVec.ofNat 32 k + 1#32 = BitVec.ofNat 32 (k + 1) := by rw [BitVec.ofNat_add]
theorem pad_ne : (4294967294#32 : BitVec 32) + 1#32 ≠ BitVec.ofNat 32 n.val := by
  intro h
  have := congrArg BitVec.toNat h
  rw [BitVec.toNat_ofNat, Nat.mod_eq_of_lt (by omega)] at this
  have e : ((4294967294#32 : BitVec 32) + 1#32).toNat = 4294967295 := by decide
  omega

/-- The last step at which a node is visited, counted from one. -/
theorem last_eq (q : Fin 5) (t : Fin 50) (h : IsLast (aP m c) b n t) : k0_pay25 (F := Ideal) ((inputs m c t0_0).v (5 * b.val + q.val)) (ix2 n 0) = BitVec.ofNat 32 (t.val + 1) := by
  rw [last_at]
  refine fold_max _ _ _ (fun x _ => ?_) (⟨t.val, by omega⟩ : Fin 64) (Finset.mem_univ _) ?_
  · rw [small_toInt _ (by omega)]
    by_cases hx : x.val < 50
    · rw [in_v, dif_pos hx]
      by_cases hv : (aP m c) (ix2 b ⟨x.val, hx⟩) + 1#32 = BitVec.ofNat 32 n.val
      · rw [if_pos hv, succ_word, small_toInt _ (by omega)]
        have : ¬ t < ⟨x.val, hx⟩ := fun hlt => h.2 _ hlt hv
        have : x.val ≤ t.val := by simpa [Fin.lt_def] using this
        omega
      · rw [if_neg hv]
        show (0 : Int) ≤ _; omega
    · rw [in_v, dif_neg hx, if_neg (pad_ne n)]
      show (0 : Int) ≤ _; omega
  · dsimp only
    rw [in_v, dif_pos t.isLt, if_pos h.1, succ_word]
theorem never_eq (q : Fin 5) (h : Never (aP m c) b n) : k0_pay25 (F := Ideal) ((inputs m c t0_0).v (5 * b.val + q.val)) (ix2 n 0) = 0#32 := by
  rw [last_at]
  have z : ∀ x : Fin 64, (if ((inputs m c t0_0).v (5 * b.val + q.val) (ix2 x 0) : BitVec 32) + 1#32 = BitVec.ofNat 32 n.val then BitVec.ofNat 32 x.val + 1#32 else 0#32) = 0#32 := by
    intro x
    by_cases hx : x.val < 50
    · rw [in_v, dif_pos hx, if_neg (h _)]
    · rw [in_v, dif_neg hx, if_neg (pad_ne n)]
  exact fold_max _ _ _ (fun x _ => le_of_eq (congrArg BitVec.toInt (z x))) (0 : Fin 64) (Finset.mem_univ _) (z 0)

theorem at_step (q : Fin 5) (s : Fin 10) (t : Fin 50) :
    BitVec.ofNat 32 (t.val + 1) - 1#32 - BitVec.ofNat 32 q.val * 10#32 = BitVec.ofNat 32 s.val ↔ stepOf q s = t := by
  have e : BitVec.ofNat 32 s.val + BitVec.ofNat 32 q.val * 10#32 + 1#32 = BitVec.ofNat 32 (q.val * 10 + s.val + 1) := by
    rw [BitVec.ofNat_add, BitVec.ofNat_add, BitVec.ofNat_mul, BitVec.add_comm (BitVec.ofNat 32 s.val)]
  rw [BitVec.sub_eq_iff_eq_add, BitVec.sub_eq_iff_eq_add, e]
  constructor
  · intro h
    have := small_inj (by omega) (by omega) h
    exact Fin.ext (show q.val * 10 + s.val = t.val by omega)
  · rintro rfl
    rfl
theorem vis_eq (a : Vec Ideal S64x768 .f32) (t : Fin 50) (h : IsLast (aP m c) b n t) :
    (visAt (inputs m c t0_0) a (5 * b.val + 4 + 1) (ix2 n j) : EReal) = stepSum (aX m c) (aL m c) b t j := by
  rw [visAt_sum]
  refine Eq.trans (b := ∑ t' : Fin 50, if t' = t then stepSum (aX m c) (aL m c) b t' j else 0) ?_ ?_
  · refine Eq.trans (Finset.sum_congr rfl fun q _ => ?_) (Fin.sum_univ_tiles 5 10 rfl _).symm
    rw [vis_at]
    refine Finset.sum_congr rfl fun s _ => ?_
    rw [last_eq m c b n q t h, steps_eq]
    refine if_congr ?_ rfl rfl
    rw [at_step, small_toInt _ (by omega)]
    exact and_iff_left (by omega)
  · rw [Finset.sum_ite_eq' Finset.univ t, if_pos (Finset.mem_univ _)]

/-- The kernel's result at an entry, but for the node's image features. -/
def entryOf (img : EReal) (k : Fin 100) : EReal :=
  img + m ((c : Thread nD τ).loc main_arg14) (ix2 k j) + (lnorm (proj (m ((c : Thread nD τ).loc main_arg8)) (m ((c : Thread nD τ).loc main_arg10)) (m ((c : Thread nD τ).loc main_arg11)) b n) j
    * m ((c : Thread nD τ).loc main_arg12) (ix1 j) + m ((c : Thread nD τ).loc main_arg13) (ix1 j))

theorem proj_eq (q : Fin 5) (x : Fin 768) : (∑ r : Fin 8, ((inputs m c t0_0).pos (5 * b.val + q.val) (ix2 n r) * (inputs m c t0_0).wpos (ix2 r x) : EReal) + ((inputs m c t0_0).bpos (ix2 0 x) : EReal))
    = proj (m ((c : Thread nD τ).loc main_arg8)) (m ((c : Thread nD τ).loc main_arg10)) (m ((c : Thread nD τ).loc main_arg11)) b n x := by
  unfold proj
  rw [in_bpos, Fin.sum_univ_castSucc]
  refine congrArg (· + (m ((c : Thread nD τ).loc main_arg11) (ix1 x) : EReal)) ?_
  rw [in_wpos, dif_neg (by decide)]
  have z : (FloatOps.sitofp (F := Ideal) FTy.f32 (0#32 : BitVec 32) : EReal) = 0 := by
    show (((0#32 : BitVec 32).toInt : ℝ) : EReal) = 0
    simp
  refine Eq.trans (congrArg₂ (· + ·) (Finset.sum_congr rfl fun r _ => ?_) (by rw [z, mul_zero])) (add_zero _)
  have hr : r.castSucc.val < 7 := r.isLt
  rw [in_pos, in_wpos, dif_pos hr, dif_pos hr]
  rfl

theorem result_rest (k : Fin 100) (hk : m ((c : Thread nD τ).loc main_arg7) (ix2 b n) = BitVec.ofNat 32 k.val) (a a' : Vec Ideal S64x768 .f32) (e : Vec Ideal S1x64 .f32) :
    (rowAt (inputs m c t0_0) a a' e (5 * b.val + 4) (ix2 n j) : EReal)
      = entryOf m c b n j (k0_pay9 (k0_pay25 (F := Ideal) ((inputs m c t0_0).v (5 * b.val + 4))) ((inputs m c t0_0).len (5 * b.val + 4)) (candAt (inputs m c t0_0) a (5 * b.val + 4 + 1)) (cntAt (inputs m c t0_0) e (5 * b.val + 4 + 1)) (visAt (inputs m c t0_0) a' (5 * b.val + 4 + 1)) (ix2 n j)) k := by
  unfold rowAt rowOf entryOf
  have hs : (inputs m c t0_0).sid (5 * b.val + 4) (ix2 n 0) = BitVec.ofNat 32 k.val := (in_sid m c b 4 n).trans hk
  rw [row_at, step_at _ _ n j k hs, in_table, norm_at, in_gam, in_bet]
  refine congrArg (fun z => _ + _ + (lnorm z j * _ + _)) (funext fun x => proj_eq m c b n 4 x)

theorem one_le_len (L : (⟨2, ![16, 50]⟩ : Shape).Idx → BitVec 32) (t : Fin 50) : (1 : EReal) ≤ FloatOps.sitofp (F := Ideal) FTy.f32 (len L b t) := by
  show (1 : EReal) ≤ (((len L b t).toInt : ℝ) : EReal)
  have : (1 : Int) ≤ (len L b t).toInt := (le_maxsi _ _).2
  exact_mod_cast this

/-- The kernel's result at a node last visited at step `t`. -/
theorem result_last (k : Fin 100) (hk : m ((c : Thread nD τ).loc main_arg7) (ix2 b n) = BitVec.ofNat 32 k.val) (t : Fin 50) (h : IsLast (aP m c) b n t) (a a' : Vec Ideal S64x768 .f32) (e : Vec Ideal S1x64 .f32) :
    (rowAt (inputs m c t0_0) a a' e (5 * b.val + 4) (ix2 n j) : EReal) = entryOf m c b n j (if n.val = 0 then 0 else visited (aX m c) (aL m c) b t j) k := by
  rw [result_rest m c b n j k hk, agg_at]
  refine congrArg (entryOf m c b n j · k) (if_congr Iff.rfl rfl ?_)
  have hl := last_eq m c b n 4 t h
  change k0_pay25 (F := Ideal) ((inputs m c t0_0).v (5 * b.val + 4)) (ix2 n 0) = _ at hl
  rw [hl, if_pos (by rw [small_toInt _ (by omega)]; omega), vis_eq m c b n j _ t h]
  have hs : BitVec.ofNat 32 (t.val + 1) - 1#32 = BitVec.ofNat 32 t.val := by rw [BitVec.sub_eq_iff_eq_add, succ_word]
  rw [sum_bit _ (fun x : Fin 64 => FloatOps.sitofp (F := Ideal) FTy.f32 (IntOp.maxsi ((inputs m c t0_0).len (5 * b.val + 4) (ix2 x 0)) 1#32)) (⟨t.val, by omega⟩ : Fin 64) (by decide) hs]
  have hn := in_len m c b 4 (⟨t.val, by omega⟩ : Fin 64)
  rw [dif_pos t.isLt] at hn
  change (inputs m c t0_0).len (5 * b.val + 4) _ = _ at hn
  rw [hn]
  exact congrArg (Ideal.div _) (max_eq_left (one_le_len b (aL m c) t))
/-- The kernel's result at a node never visited. -/
theorem result_never (k : Fin 100) (hk : m ((c : Thread nD τ).loc main_arg7) (ix2 b n) = BitVec.ofNat 32 k.val) (h : Never (aP m c) b n) (a a' : Vec Ideal S64x768 .f32) (e : Vec Ideal S1x64 .f32) :
    (rowAt (inputs m c t0_0) a a' e (5 * b.val + 4) (ix2 n j) : EReal) = entryOf m c b n j (if n.val = 0 then 0 else unvisited (aX m c) (aL m c) (aC m c) b n j) k := by
  rw [result_rest m c b n j k hk, agg_at]
  refine congrArg (entryOf m c b n j · k) (if_congr Iff.rfl rfl ?_)
  have hl := never_eq m c b n 4 h
  change k0_pay25 (F := Ideal) ((inputs m c t0_0).v (5 * b.val + 4)) (ix2 n 0) = _ at hl
  rw [hl, if_neg (by decide), cand_eq, cnt_eq]
  rfl
end Cert.Agg
end
-- ==== Proof.Landing.lean ====
module
public import proofs.«01_k».proof.Proof.Gen.ReferenceIdeal.Run
public import Idealize.ShloMosaic.Lib.Pointwise
public import Idealize.ShloMosaic.Lib.Routing.OpsSet
public import Idealize.ShloMosaic.Lib.ValueIdxRank1

/-! # Where the updates of the reference's scatters land

A scatter by one index word per row, at any extents: the rows of a matrix, and the entries of a vector. -/

@[expose] public section
set_option maxRecDepth 16384
noncomputable section
namespace Cert.Agg
open Idealize.ShloMosaic
open Idealize.ShloMosaic.Routing (shape1 shape2 resultIdx?_eq_some scatter_at)

/-- Entry `j'` of update row `k` lands at `(r, j)` exactly when the row's word is `r` and `j' = j`. -/
theorem lands_rows {R K C w : ℕ} (d : ScatterDims (shape2 R C) (shape2 K 1) (shape2 K C)) (huw : d.updateWindowDims = [1])
    (hiw : d.insertedWindowDims = [0]) (hsd : d.scatterDimsToOperandDims = [0]) (hiv : d.indexVectorDim = 1)
    (idx : IVec (shape2 K 1) w) (k : Fin K) (j' j : Fin C) (r : Fin R) :
    d.resultIdx? (ix2 k j') idx = some (ix2 r j) ↔ (idx (ix2 k 0)).toInt = r.val ∧ j' = j := by
  obtain ⟨uw, iw, sd, iv, wf⟩ := d
  dsimp only at huw hiw hsd hiv
  subst huw hiw hsd hiv
  rw [resultIdx?_eq_some]
  have e : ScatterDims.start ⟨[1], [0], [0], 1, wf⟩ (ix2 k j') idx 0 = (idx (ix2 k 0)).toInt := by
    unfold ScatterDims.start
    rw [dif_pos (List.mem_singleton.2 rfl)]
    refine congrArg (fun x => (idx x).toInt) (funext fun a => ?_)
    match a with
    | ⟨0, _⟩ => rfl
    | ⟨1, _⟩ => rfl
  have e' : ScatterDims.start ⟨[1], [0], [0], 1, wf⟩ (ix2 k j') idx 1 = 0 := by
    unfold ScatterDims.start
    rw [dif_neg (by intro h; exact absurd (congrArg Fin.val (List.mem_singleton.1 h)) Nat.one_ne_zero)]
  have w0 : ScatterDims.window ⟨[1], [0], [0], 1, wf⟩ (ix2 k j') 0 = 0 := rfl
  have w1 : ScatterDims.window ⟨[1], [0], [0], 1, wf⟩ (ix2 k j') 1 = j'.val := rfl
  constructor
  · intro h
    have h0 := h 0; have h1 := h 1
    rw [e, w0] at h0; rw [e', w1] at h1
    change _ = (r.val : ℤ) at h0; change _ = (j.val : ℤ) at h1
    exact ⟨by omega, Fin.ext (by omega)⟩
  · rintro ⟨h, rfl⟩ a
    match a with
    | ⟨0, _⟩ => show ScatterDims.start _ _ _ 0 + (ScatterDims.window _ _ 0 : ℤ) = (r.val : ℤ); rw [e, w0]; omega
    | ⟨1, _⟩ => show ScatterDims.start _ _ _ 1 + (ScatterDims.window _ _ 1 : ℤ) = (j'.val : ℤ); rw [e', w1]; omega

/-- Update `k` lands at `r` exactly when its word is `r`. -/
theorem lands_entries {R K w : ℕ} (d : ScatterDims (shape1 R) (shape2 K 1) (shape1 K)) (huw : d.updateWindowDims = [])
    (hiw : d.insertedWindowDims = [0]) (hsd : d.scatterDimsToOperandDims = [0]) (hiv : d.indexVectorDim = 1)
    (idx : IVec (shape2 K 1) w) (k : Fin K) (r : Fin R) :
    d.resultIdx? (ix1 k) idx = some (ix1 r) ↔ (idx (ix2 k 0)).toInt = r.val := by
  obtain ⟨uw, iw, sd, iv, wf⟩ := d
  dsimp only at huw hiw hsd hiv
  subst huw hiw hsd hiv
  rw [resultIdx?_eq_some]
  have e : ScatterDims.start ⟨[], [0], [0], 1, wf⟩ (ix1 k) idx 0 = (idx (ix2 k 0)).toInt := by
    unfold ScatterDims.start
    rw [dif_pos (List.mem_singleton.2 rfl)]
    refine congrArg (fun x => (idx x).toInt) (funext fun a => ?_)
    match a with
    | ⟨0, _⟩ => rfl
    | ⟨1, _⟩ => rfl
  have w0 : ScatterDims.window ⟨[], [0], [0], 1, wf⟩ (ix1 k) 0 = 0 := rfl
  constructor
  · intro h
    have h0 := h 0
    rw [e, w0] at h0
    change _ = (r.val : ℤ) at h0
    omega
  · intro h a
    match a with
    | ⟨0, _⟩ => show ScatterDims.start _ _ _ 0 + (ScatterDims.window _ _ 0 : ℤ) = (r.val : ℤ); rw [e, w0]; omega

/-- Of a fold that takes the value at each hit, the last hit's value stands. -/
theorem foldl_last {α : Type} : ∀ {N : ℕ} (p : Fin N → Prop) [DecidablePred p] (v : Fin N → α) (a : α) (n : Fin N), p n → (∀ n', n < n' → ¬ p n') →
    (List.finRange N).foldl (fun a n => if p n then v n else a) a = v n
  | 0, _, _, _, _, n, _, _ => n.elim0
  | N + 1, p, _, v, a, n, h, hl => by
    rw [List.finRange_succ_last, List.foldl_append, List.foldl_map]
    show (if p (Fin.last N) then v (Fin.last N) else (List.finRange N).foldl (fun a n => if p n.castSucc then v n.castSucc else a) a) = v n
    by_cases e : n = Fin.last N
    · subst e; exact if_pos h
    · rw [if_neg (hl _ (Fin.lt_last_iff_ne_last.2 e))]
      obtain ⟨k, rfl⟩ := Fin.exists_castSucc_eq.2 e
      exact foldl_last (fun n => p n.castSucc) (fun n => v n.castSucc) a k h (fun n' hn => hl _ (Fin.castSucc_lt_castSucc_iff.2 hn))

/-- Of the updates of a scatter that sets, the last one that lands at an element stands. -/
theorem scatter_last {α : Type} {s si u : Shape} {w : ℕ} (d : ScatterDims s si u) (x0 : s.Idx → α) (idx : IVec si w) (upd : u.Idx → α) (ι : s.Idx)
    (k : u.Idx) (hk : d.resultIdx? k idx = some ι) (hl : ∀ k', (u.rowMajor k).val < (u.rowMajor k').val → d.resultIdx? k' idx ≠ some ι) :
    Host.scatter d (fun _ b => b) x0 idx upd ι = upd k := by
  rw [scatter_at, foldl_last (fun n => d.resultIdx? (u.rowMajor.symm n) idx = some ι) (fun n => upd (u.rowMajor.symm n)) _ (u.rowMajor k)]
  · rw [Equiv.symm_apply_apply]
  · rw [Equiv.symm_apply_apply]; exact hk
  · intro n hn
    exact hl _ (by rw [Equiv.apply_symm_apply]; exact hn)

/-- Rows set: the last row whose word is `r` stands. -/
theorem rows_last {α : Type} {R K C w : ℕ} (d : ScatterDims (shape2 R C) (shape2 K 1) (shape2 K C)) (huw : d.updateWindowDims = [1])
    (hiw : d.insertedWindowDims = [0]) (hsd : d.scatterDimsToOperandDims = [0]) (hiv : d.indexVectorDim = 1)
    (x0 : (shape2 R C).Idx → α) (idx : IVec (shape2 K 1) w) (upd : (shape2 K C).Idx → α) (r : Fin R) (j : Fin C) (k : Fin K)
    (hk : (idx (ix2 k 0)).toInt = r.val) (hl : ∀ k' : Fin K, k < k' → (idx (ix2 k' 0)).toInt ≠ r.val) :
    Host.scatter d (fun _ b => b) x0 idx upd (ix2 r j) = upd (ix2 k j) := by
  refine scatter_last d x0 idx upd _ _ ((lands_rows d huw hiw hsd hiv idx k j j r).2 ⟨hk, rfl⟩) fun y hy h => ?_
  obtain ⟨k', j', rfl⟩ : ∃ (k' : Fin K) (j' : Fin C), y = ix2 k' j' := ⟨y 0, y 1, by funext a; match a with | ⟨0, _⟩ => rfl | ⟨1, _⟩ => rfl⟩
  obtain ⟨h', rfl⟩ := (lands_rows d huw hiw hsd hiv idx k' j' j r).1 h
  rw [Shape.rowMajor_val_two, Shape.rowMajor_val_two] at hy
  change k.val * C + j'.val < k'.val * C + j'.val at hy
  exact hl k' (Fin.lt_def.2 (Nat.lt_of_mul_lt_mul_right (by omega : k.val * C < k'.val * C))) h'

/-- Rows set: where no row's word is `r`, the operand's row stays. -/
theorem rows_miss {α : Type} {R K C w : ℕ} (d : ScatterDims (shape2 R C) (shape2 K 1) (shape2 K C)) (huw : d.updateWindowDims = [1])
    (hiw : d.insertedWindowDims = [0]) (hsd : d.scatterDimsToOperandDims = [0]) (hiv : d.indexVectorDim = 1)
    (x0 : (shape2 R C).Idx → α) (idx : IVec (shape2 K 1) w) (upd : (shape2 K C).Idx → α) (r : Fin R) (j : Fin C)
    (hl : ∀ k' : Fin K, (idx (ix2 k' 0)).toInt ≠ r.val) :
    Host.scatter d (fun _ b => b) x0 idx upd (ix2 r j) = x0 (ix2 r j) := by
  refine Routing.scatter_set_miss d x0 idx upd _ fun y h => ?_
  obtain ⟨k', j', rfl⟩ : ∃ (k' : Fin K) (j' : Fin C), y = ix2 k' j' := ⟨y 0, y 1, by funext a; match a with | ⟨0, _⟩ => rfl | ⟨1, _⟩ => rfl⟩
  exact hl k' ((lands_rows d huw hiw hsd hiv idx k' j' j r).1 h).1

/-- Entries set to one value: that value where a word is `r`. -/
theorem entries_hit {α : Type} {R K w : ℕ} (d : ScatterDims (shape1 R) (shape2 K 1) (shape1 K)) (huw : d.updateWindowDims = [])
    (hiw : d.insertedWindowDims = [0]) (hsd : d.scatterDimsToOperandDims = [0]) (hiv : d.indexVectorDim = 1)
    (x0 : (shape1 R).Idx → α) (idx : IVec (shape2 K 1) w) (upd : (shape1 K).Idx → α) (r : Fin R) (v : α) (hv : ∀ y, upd y = v) (k : Fin K)
    (hk : (idx (ix2 k 0)).toInt = r.val) : Host.scatter d (fun _ b => b) x0 idx upd (ix1 r) = v :=
  Routing.scatter_set_hit d x0 idx upd _ v (fun _ _ => hv _) (ix1 k) ((lands_entries d huw hiw hsd hiv idx k r).2 hk)
theorem entries_miss {α : Type} {R K w : ℕ} (d : ScatterDims (shape1 R) (shape2 K 1) (shape1 K)) (huw : d.updateWindowDims = [])
    (hiw : d.insertedWindowDims = [0]) (hsd : d.scatterDimsToOperandDims = [0]) (hiv : d.indexVectorDim = 1)
    (x0 : (shape1 R).Idx → α) (idx : IVec (shape2 K 1) w) (upd : (shape1 K).Idx → α) (r : Fin R)
    (hl : ∀ k' : Fin K, (idx (ix2 k' 0)).toInt ≠ r.val) : Host.scatter d (fun _ b => b) x0 idx upd (ix1 r) = x0 (ix1 r) := by
  refine Routing.scatter_set_miss d x0 idx upd _ fun y h => ?_
  obtain ⟨k', rfl⟩ : ∃ k' : Fin K, y = ix1 k' := ⟨y 0, by funext a; match a with | ⟨0, _⟩ => rfl⟩
  exact hl k' ((lands_entries d huw hiw hsd hiv idx k' r).1 h)

/-- Rows added: the operand's element and the sum over the rows whose word is `r`. -/
theorem rows_add {R K C w : ℕ} (d : ScatterDims (shape2 R C) (shape2 K 1) (shape2 K C)) (huw : d.updateWindowDims = [1])
    (hiw : d.insertedWindowDims = [0]) (hsd : d.scatterDimsToOperandDims = [0]) (hiv : d.indexVectorDim = 1)
    (x0 : FVec Ideal (shape2 R C) .f32) (idx : IVec (shape2 K 1) w) (upd : FVec Ideal (shape2 K C) .f32) (r : Fin R) (j : Fin C) :
    Host.scatterAdd d x0 idx upd (ix2 r j) = x0 (ix2 r j) + ∑ k : Fin K, if (idx (ix2 k 0)).toInt = r.val then upd (ix2 k j) else (0 : EReal) := by
  show x0 (ix2 r j) + ∑ y ∈ Finset.univ.filter (fun y => d.resultIdx? y idx = some (ix2 r j)), upd y = _
  rw [Finset.sum_filter, ValueIdx.sum_idx2]
  refine congrArg _ (Finset.sum_congr rfl fun k _ => ?_)
  rw [Finset.sum_eq_single j]
  · exact if_congr ((lands_rows d huw hiw hsd hiv idx k j j r).trans (and_iff_left rfl)) rfl rfl
  · intro j' _ hj
    exact if_neg fun h => hj ((lands_rows d huw hiw hsd hiv idx k j' j r).1 h).2
  · intro h; exact absurd (Finset.mem_univ _) h

/-- Entries added: the operand's entry and the sum over the updates whose word is `r`. -/
theorem entries_add {R K w : ℕ} (d : ScatterDims (shape1 R) (shape2 K 1) (shape1 K)) (huw : d.updateWindowDims = [])
    (hiw : d.insertedWindowDims = [0]) (hsd : d.scatterDimsToOperandDims = [0]) (hiv : d.indexVectorDim = 1)
    (x0 : FVec Ideal (shape1 R) .f32) (idx : IVec (shape2 K 1) w) (upd : FVec Ideal (shape1 K) .f32) (r : Fin R) :
    Host.scatterAdd d x0 idx upd (ix1 r) = x0 (ix1 r) + ∑ k : Fin K, if (idx (ix2 k 0)).toInt = r.val then upd (ix1 k) else (0 : EReal) := by
  show x0 (ix1 r) + ∑ y ∈ Finset.univ.filter (fun y => d.resultIdx? y idx = some (ix1 r)), upd y = _
  rw [Finset.sum_filter]
  refine congrArg _ ?_
  rw [← Equiv.sum_comp (ValueIdx.idxEquiv1 (n := K)).symm]
  exact Finset.sum_congr rfl fun k _ => if_congr (lands_entries d huw hiw hsd hiv idx k r) rfl rfl

end Cert.Agg
end
-- ==== Proof.Keys.lean ====
module
public import proofs.«01_k».proof.Proof.Landing
public import proofs.«01_k».proof.Proof.Spec

/-! # The reference's scatters at a node

Node `n` of batch `b` is row `64 * b + n`. The keys of the visited nodes and of the candidates say which row each step, and each view, goes to. -/

@[expose] public section
set_option maxRecDepth 16384
noncomputable section
namespace Cert.Agg
open Idealize.ShloMosaic
open Idealize.ShloMosaic.Routing (shape1 shape2 shape3 resultIdx?_eq_some)

/-- One column of a batch of matrices, zeroed: the entries of the other columns stay. -/
theorem lands_column0 {A N D w : ℕ} (d : ScatterDims (shape3 A N D) (shape1 1) (shape2 A D)) (huw : d.updateWindowDims = [0, 1])
    (hiw : d.insertedWindowDims = [1]) (hsd : d.scatterDimsToOperandDims = [1]) (hiv : d.indexVectorDim = 0)
    (idx : IVec (shape1 1) w) (h0 : (idx (ix1 0)).toInt = 0) (a' a : Fin A) (n : Fin N) (j' j : Fin D) :
    d.resultIdx? (ix2 a' j') idx = some (ix3 a n j) ↔ a' = a ∧ n.val = 0 ∧ j' = j := by
  obtain ⟨uw, iw, sd, iv, wf⟩ := d
  dsimp only at huw hiw hsd hiv
  subst huw hiw hsd hiv
  rw [resultIdx?_eq_some]
  have e1 : ScatterDims.start ⟨[0, 1], [1], [1], 0, wf⟩ (ix2 a' j') idx 1 = 0 := by
    unfold ScatterDims.start
    rw [dif_pos (List.mem_singleton.2 rfl)]
    refine Eq.trans (congrArg (fun x => (idx x).toInt) (funext fun a => ?_)) h0
    match a with
    | ⟨0, _⟩ => rfl
  have e0 : ScatterDims.start ⟨[0, 1], [1], [1], 0, wf⟩ (ix2 a' j') idx 0 = 0 := by
    unfold ScatterDims.start
    rw [dif_neg (by intro h; exact absurd (congrArg Fin.val (List.mem_singleton.1 h)) Nat.zero_ne_one)]
  have e2 : ScatterDims.start ⟨[0, 1], [1], [1], 0, wf⟩ (ix2 a' j') idx 2 = 0 := by
    unfold ScatterDims.start
    rw [dif_neg (by intro h; exact absurd (congrArg Fin.val (List.mem_singleton.1 h)) (by decide : (2 : ℕ) ≠ 1))]
  have w0 : ScatterDims.window ⟨[0, 1], [1], [1], 0, wf⟩ (ix2 a' j') 0 = a'.val := rfl
  have w1 : ScatterDims.window ⟨[0, 1], [1], [1], 0, wf⟩ (ix2 a' j') 1 = 0 := rfl
  have w2 : ScatterDims.window ⟨[0, 1], [1], [1], 0, wf⟩ (ix2 a' j') 2 = j'.val := rfl
  constructor
  · intro h
    have h0 := h 0; have h1 := h 1; have h2 := h 2
    rw [e0, w0] at h0; rw [e1, w1] at h1; rw [e2, w2] at h2
    change _ = (a.val : ℤ) at h0; change _ = (n.val : ℤ) at h1; change _ = (j.val : ℤ) at h2
    exact ⟨Fin.ext (by omega), by omega, Fin.ext (by omega)⟩
  · rintro ⟨rfl, hn, rfl⟩ x
    match x with
    | ⟨0, _⟩ => show ScatterDims.start _ _ _ 0 + (ScatterDims.window _ _ 0 : ℤ) = (a'.val : ℤ); rw [e0, w0]; omega
    | ⟨1, _⟩ => show ScatterDims.start _ _ _ 1 + (ScatterDims.window _ _ 1 : ℤ) = (n.val : ℤ); rw [e1, w1]; omega
    | ⟨2, _⟩ => show ScatterDims.start _ _ _ 2 + (ScatterDims.window _ _ 2 : ℤ) = (j'.val : ℤ); rw [e2, w2]; omega
theorem column0 {α : Type} {A N D w : ℕ} (d : ScatterDims (shape3 A N D) (shape1 1) (shape2 A D)) (huw : d.updateWindowDims = [0, 1])
    (hiw : d.insertedWindowDims = [1]) (hsd : d.scatterDimsToOperandDims = [1]) (hiv : d.indexVectorDim = 0)
    (x0 : (shape3 A N D).Idx → α) (idx : IVec (shape1 1) w) (upd : (shape2 A D).Idx → α) (h0 : (idx (ix1 0)).toInt = 0)
    (z : α) (hz : ∀ y, upd y = z) (a : Fin A) (n : Fin N) (j : Fin D) :
    Host.scatter d (fun _ b => b) x0 idx upd (ix3 a n j) = if n.val = 0 then z else x0 (ix3 a n j) := by
  by_cases hn : n.val = 0
  · rw [if_pos hn]
    exact Routing.scatter_set_hit d x0 idx upd _ z (fun _ _ => hz _) (ix2 a j) ((lands_column0 d huw hiw hsd hiv idx h0 a a n j j).2 ⟨rfl, hn, rfl⟩)
  · rw [if_neg hn]
    refine Routing.scatter_set_miss d x0 idx upd _ fun y h => ?_
    obtain ⟨a', j', rfl⟩ : ∃ (a' : Fin A) (j' : Fin D), y = ix2 a' j' := ⟨y 0, y 1, by funext x; match x with | ⟨0, _⟩ => rfl | ⟨1, _⟩ => rfl⟩
    exact hn ((lands_column0 d huw hiw hsd hiv idx h0 a' a n j' j).1 h).2.1

/-- A row of a table taken at a word of its range. -/
theorem take_row {α : Type} {N A B D w : ℕ} (d : GatherDims (shape2 N D) (shape3 A B 1) (shape3 A B D)) (ho : d.offsetDims = [2])
    (hc : d.collapsedSliceDims = [0]) (hb : d.operandBatchingDims = []) (hs : d.startIndicesBatchingDims = []) (hm : d.startIndexMap = [0])
    (hv : d.indexVectorDim = 2) (hz : d.sliceSizes = ![1, D]) (x : (shape2 N D).Idx → α) (idx : IVec (shape3 A B 1) w) (a : Fin A) (b : Fin B) (j : Fin D)
    (k : Fin N) (hk : (idx (ix3 a b 0)).toInt = k.val) : Host.gather d x idx (ix3 a b j) = x (ix2 k j) := by
  obtain ⟨od, cd, bd, sb, sm, iv, sz, wf⟩ := d
  dsimp only at ho hc hb hs hm hv hz
  subst ho hc hb hs hm hv hz
  unfold Host.gather
  refine congrArg x (funext fun ax => Fin.ext ?_)
  have hl := k.isLt
  match ax with
  | ⟨0, _⟩ =>
    show GatherDims.start (⟨[2], [0], [], [], [0], 2, ![1, D], wf⟩ : GatherDims (shape2 N D) (shape3 A B 1) (shape3 A B D)) (ix3 a b j) idx 0 + GatherDims.batchCoord _ _ 0 + GatherDims.offCoord _ _ 0 = k.val
    rw [GatherDims.batchCoord_eq_zero _ _ _ List.not_mem_nil, GatherDims.offCoord_eq_zero _ _ _ (fun h => ((GatherDims.mem_sKept _ _).mp h).1 (List.mem_singleton.mpr rfl))]
    unfold GatherDims.start
    rw [dif_pos (List.mem_singleton.mpr rfl)]
    have e : GatherDims.siIdx (⟨[2], [0], [], [], [0], 2, ![1, D], wf⟩ : GatherDims (shape2 N D) (shape3 A B 1) (shape3 A B D)) (ix3 a b j) ⟨List.idxOf (0 : Fin 2) [0], List.idxOf_lt_length_iff.2 (List.mem_singleton.mpr rfl)⟩ = ix3 a b 0 := by
      funext y; match y with
      | ⟨0, _⟩ => rfl
      | ⟨1, _⟩ => rfl
      | ⟨2, _⟩ => rfl
    show min (idx _).toInt.toNat (N - 1) + 0 + 0 = k.val
    refine Eq.trans (congrArg (fun y => min (idx y).toInt.toNat (N - 1) + 0 + 0) e) ?_
    rw [hk]; omega
  | ⟨1, _⟩ =>
    show GatherDims.start (⟨[2], [0], [], [], [0], 2, ![1, D], wf⟩ : GatherDims (shape2 N D) (shape3 A B 1) (shape3 A B D)) (ix3 a b j) idx 1 + GatherDims.batchCoord _ _ 1 + GatherDims.offCoord _ _ 1 = j.val
    rw [GatherDims.batchCoord_eq_zero _ _ _ List.not_mem_nil]
    unfold GatherDims.start
    rw [dif_neg (by intro h; exact absurd (congrArg Fin.val (List.mem_singleton.1 h)) Nat.one_ne_zero)]
    show 0 + 0 + j.val = j.val
    omega

/-! ## Keys -/

abbrev row (b : Fin 16) (n : Fin 64) : Fin 1024 := ⟨b.val * 64 + n.val, by omega⟩
abbrev pos2 (b : Fin 16) (t : Fin 50) : Fin 800 := ⟨b.val * 50 + t.val, by omega⟩
abbrev pos3 (b : Fin 16) (t : Fin 50) (v : Fin 64) : Fin 51200 := ⟨b.val * 3200 + (t.val * 64 + v.val), by omega⟩

section Visited
variable (P : (⟨2, ![16, 50]⟩ : Shape).Idx → BitVec 32) (hP : ∀ b t, (P (ix2 b t)).toNat < 50) (idx : IVec (shape2 800 1) 32)
  (H : ∀ (b : Fin 16) (t : Fin 50), (idx (ix2 (pos2 b t) 0)).toInt = 64 * b.val + ((P (ix2 b t)).toNat + 1)) (b : Fin 16) (n : Fin 64)
include hP H
theorem succ_eq (t : Fin 50) : P (ix2 b t) + 1#32 = BitVec.ofNat 32 n.val ↔ (P (ix2 b t)).toNat + 1 = n.val := by
  have := hP b t
  rw [← BitVec.toNat_inj, BitVec.toNat_add, BitVec.toNat_ofNat]
  show ((P (ix2 b t)).toNat + 1) % 2 ^ 32 = n.val % 2 ^ 32 ↔ _
  rw [Nat.mod_eq_of_lt (by omega), Nat.mod_eq_of_lt (by omega)]
theorem vis_key (b' : Fin 16) (t : Fin 50) : (idx (ix2 (pos2 b' t) 0)).toInt = (row b n).val ↔ b' = b ∧ P (ix2 b t) + 1#32 = BitVec.ofNat 32 n.val := by
  have h1 := hP b' t; have h2 := hP b t
  rw [H, succ_eq P hP idx H b n t]
  constructor
  · intro h
    change _ = ((b.val * 64 + n.val : ℕ) : ℤ) at h
    have e : b' = b := Fin.ext (by omega)
    subst e
    exact ⟨rfl, by omega⟩
  · rintro ⟨rfl, h⟩
    show _ = ((b'.val * 64 + n.val : ℕ) : ℤ)
    omega
omit hP H in
theorem pos2_surj (k : Fin 800) : ∃ b t, k = pos2 b t :=
  ⟨⟨k.val / 50, by omega⟩, ⟨k.val % 50, by omega⟩, Fin.ext (by show k.val = k.val / 50 * 50 + k.val % 50; omega)⟩
theorem vis_last (t : Fin 50) (h : IsLast P b n t) : (idx (ix2 (pos2 b t) 0)).toInt = (row b n).val ∧ ∀ k', pos2 b t < k' → (idx (ix2 k' 0)).toInt ≠ (row b n).val := by
  refine ⟨(vis_key P hP idx H b n b t).2 ⟨rfl, h.1⟩, fun k' hk e => ?_⟩
  obtain ⟨b', t', rfl⟩ := pos2_surj k'
  obtain ⟨rfl, e⟩ := (vis_key P hP idx H b n b' t').1 e
  refine h.2 t' ?_ e
  have : b'.val * 50 + t.val < b'.val * 50 + t'.val := hk
  exact Fin.lt_def.2 (by omega)
theorem vis_never (h : Never P b n) (k' : Fin 800) : (idx (ix2 k' 0)).toInt ≠ (row b n).val := by
  intro e
  obtain ⟨b', t', rfl⟩ := pos2_surj k'
  obtain ⟨rfl, e⟩ := (vis_key P hP idx H b n b' t').1 e
  exact h t' e
end Visited

section Cand
variable (C : (⟨3, ![16, 50, 64]⟩ : Shape).Idx → BitVec 32) (hC : ∀ b t v, (C (ix3 b t v)).toNat < 64) (idx : IVec (shape2 51200 1) 32)
  (H : ∀ (b : Fin 16) (t : Fin 50) (v : Fin 64), (idx (ix2 (pos3 b t v) 0)).toInt = 64 * b.val + (C (ix3 b t v)).toNat) (b : Fin 16) (n : Fin 64)
include hC H
/-- A sum over the views that go to a node's row is the sum over its batch's views whose candidate it is. -/
theorem cand_rows (f : Fin 51200 → EReal) :
    (∑ k : Fin 51200, if (idx (ix2 k 0)).toInt = (row b n).val then f k else 0)
      = ∑ t : Fin 50, ∑ v : Fin 64, if C (ix3 b t v) = BitVec.ofNat 32 n.val then f (pos3 b t v) else 0 := by
  rw [Fin.sum_univ_tiles 16 3200 rfl, Finset.sum_eq_single b]
  · rw [Fin.sum_univ_tiles 50 64 rfl]
    refine Finset.sum_congr rfl fun t _ => Finset.sum_congr rfl fun v _ => if_congr ?_ rfl rfl
    have h1 := hC b t v
    refine Iff.trans (b := 64 * (b.val : ℤ) + (C (ix3 b t v)).toNat = ((b.val * 64 + n.val : ℕ) : ℤ)) (by rw [← H b t v]) ?_
    rw [← BitVec.toNat_inj, BitVec.toNat_ofNat, Nat.mod_eq_of_lt (by omega)]
    omega
  · intro b' _ hb
    rw [Fin.sum_univ_tiles 50 64 rfl]
    refine Finset.sum_eq_zero fun t _ => Finset.sum_eq_zero fun v _ => if_neg fun e => hb (Fin.ext ?_)
    have h1 := hC b' t v
    have e' := (H b' t v).symm.trans e
    change _ = ((b.val * 64 + n.val : ℕ) : ℤ) at e'
    omega
  · intro h; exact absurd (Finset.mem_univ _) h
end Cand

/-- jnp's wrap of the key of a visited node, read as a number: it is in range. -/
theorem vis_word (b : ℕ) (hb : b < 16) (p : BitVec 32) (hp : p.toNat < 50) (a : BitVec 32) :
    (Scalar.select (IntOp.cmpi .slt (IntOp.addi (IntOp.muli (BitVec.ofNat 32 b) 64#32) (IntOp.addi p 1#32)) 0#32) a
      (IntOp.addi (IntOp.muli (BitVec.ofNat 32 b) 64#32) (IntOp.addi p 1#32))).toInt = 64 * b + (p.toNat + 1) := by
  have e : (IntOp.addi (IntOp.muli (BitVec.ofNat 32 b) 64#32) (IntOp.addi p 1#32)).toNat = 64 * b + (p.toNat + 1) := by
    show (BitVec.ofNat 32 b * 64#32 + (p + 1#32)).toNat = _
    rw [BitVec.toNat_add, BitVec.toNat_mul, BitVec.toNat_add, BitVec.toNat_ofNat]
    show (b % 2 ^ 32 * 64 % 2 ^ 32 + (p.toNat + 1) % 2 ^ 32) % 2 ^ 32 = _
    omega
  rw [Routing.wrap_of_lt _ _ (by rw [e]; omega), WordCmp.toInt_eq_toNat_of_lt_half (by rw [e]; omega), e]
  push_cast; ring
theorem cand_word (b : ℕ) (hb : b < 16) (p : BitVec 32) (hp : p.toNat < 64) (a : BitVec 32) :
    (Scalar.select (IntOp.cmpi .slt (IntOp.addi (IntOp.muli (BitVec.ofNat 32 b) 64#32) p) 0#32) a
      (IntOp.addi (IntOp.muli (BitVec.ofNat 32 b) 64#32) p)).toInt = 64 * b + p.toNat := by
  have e : (IntOp.addi (IntOp.muli (BitVec.ofNat 32 b) 64#32) p).toNat = 64 * b + p.toNat := by
    show (BitVec.ofNat 32 b * 64#32 + p).toNat = _
    rw [BitVec.toNat_add, BitVec.toNat_mul, BitVec.toNat_ofNat]
    show (b % 2 ^ 32 * 64 % 2 ^ 32 + p.toNat) % 2 ^ 32 = _
    omega
  rw [Routing.wrap_of_lt _ _ (by rw [e]; omega), WordCmp.toInt_eq_toNat_of_lt_half (by rw [e]; omega), e]
  push_cast; ring
end Cert.Agg
end
-- ==== Proof.RefAt.lean ====
module
public import proofs.«01_k».proof.Proof.Keys
public import Idealize.ShloMosaic.Lib.IdealHost

/-! # The reference at an entry -/

@[expose] public section
set_option maxRecDepth 16384
noncomputable section
namespace Cert.Agg
open Cert.ReferenceIdeal Cert.ReferenceIdeal.Gen
open Idealize.ShloMosaic Idealize.ShloMosaic.TcCoe
open Idealize.ShloMosaic.Routing (shape1 shape2)

theorem wrapped (k : Fin 100) (a : BitVec 32) : Scalar.select (IntOp.cmpi .slt (BitVec.ofNat 32 k.val) 0#32) a (BitVec.ofNat 32 k.val) = BitVec.ofNat 32 k.val :=
  Routing.wrap_of_lt _ _ (by rw [BitVec.toNat_ofNat, Nat.mod_eq_of_lt (by omega)]; omega)
theorem in_range : ∀ k : Fin 100, IntOp.andi (IntOp.andi (IntOp.cmpi .sge (BitVec.ofNat 32 k.val) 0#32) (IntOp.cmpi .sle (BitVec.ofNat 32 k.val) 99#32)) 1#1 = 1#1 := by
  decide

/-- What the reference's scatters hold at a node's row: its image features. -/
theorem img_at (X : (⟨4, ![16, 50, 64, 768]⟩ : Shape).Idx → EReal) (L P : (⟨2, ![16, 50]⟩ : Shape).Idx → BitVec 32)
    (C : (⟨3, ![16, 50, 64]⟩ : Shape).Idx → BitVec 32) (b : Fin 16) (n : Fin 64) (j : Fin 768) (img : EReal) (hi : IsImg X L P C b n j img)
    (hP : ∀ b t, (P (ix2 b t)).toNat < 50) (hC : ∀ b t v, (C (ix3 b t v)).toNat < 64)
    (u0 : (shape1 1024).Idx → BitVec 1) (hu0 : ∀ r, u0 (ix1 r) = 0#1) (u1 : (shape1 800).Idx → BitVec 1) (hu1 : ∀ y, u1 y = 1#1)
    (w0 : (shape2 1024 768).Idx → EReal) (U : (shape2 800 768).Idx → EReal) (hU : ∀ t, U (ix2 (pos2 b t) j) = visited X L b t j)
    (IV IV' : IVec (shape2 800 1) 32) (HV : ∀ (b : Fin 16) (t : Fin 50), (IV (ix2 (pos2 b t) 0)).toInt = 64 * b.val + ((P (ix2 b t)).toNat + 1))
    (e : IV' = IV)
    (z2 : FVec Ideal (shape2 1024 768) .f32) (hz2 : ∀ r j, z2 (ix2 r j) = (0 : EReal)) (z1 : FVec Ideal (shape1 1024) .f32) (hz1 : ∀ r, z1 (ix1 r) = (0 : EReal))
    (IC IC' : IVec (shape2 51200 1) 32) (HC : ∀ (b : Fin 16) (t : Fin 50) (v : Fin 64), (IC (ix2 (pos3 b t v) 0)).toInt = 64 * b.val + (C (ix3 b t v)).toNat)
    (e' : IC' = IC)
    (M2 : FVec Ideal (shape2 51200 768) .f32) (hM2 : ∀ t v, M2 (ix2 (pos3 b t v) j) = X (ix4 b t v j) * mask L b t v)
    (M1 : FVec Ideal (shape1 51200) .f32) (hM1 : ∀ t v, M1 (ix1 (pos3 b t v)) = mask L b t v) :
    Scalar.select (Host.scatter scatter_S1024_S800x1_S800_n_0_0_1 (fun _ b => b) u0 IV u1 (ix1 (row b n)))
      (Host.scatter scatter_S1024x768_S800x1_S800x768_1_0_0_1 (fun _ b => b) w0 IV' U (ix2 (row b n) j))
      (Ideal.div (Host.scatterAdd scatter_S1024x768_S51200x1_S51200x768_1_0_0_1 z2 IC M2 (ix2 (row b n) j) : EReal)
        (max (Host.scatterAdd scatter_S1024_S51200x1_S51200_n_0_0_1 z1 IC' M1 (ix1 (row b n)) : EReal) 1)) = img := by
  subst e e'
  rcases hi with ⟨t, h, rfl⟩ | ⟨h, rfl⟩
  · obtain ⟨h1, h2⟩ := vis_last P hP IV' HV b n t h
    have e1 := entries_hit scatter_S1024_S800x1_S800_n_0_0_1 rfl rfl rfl rfl u0 IV' u1 (row b n) (1#1) hu1 (pos2 b t) h1
    have e2 := rows_last scatter_S1024x768_S800x1_S800x768_1_0_0_1 rfl rfl rfl rfl w0 IV' U (row b n) j (pos2 b t) h1 h2
    rw [e1, e2]
    exact hU t
  · have e1 := entries_miss scatter_S1024_S800x1_S800_n_0_0_1 rfl rfl rfl rfl u0 IV' u1 (row b n) (vis_never P hP IV' HV b n h)
    have e2 := rows_add scatter_S1024x768_S51200x1_S51200x768_1_0_0_1 rfl rfl rfl rfl z2 IC' M2 (row b n) j
    have e3 := entries_add scatter_S1024_S51200x1_S51200_n_0_0_1 rfl rfl rfl rfl z1 IC' M1 (row b n)
    rw [cand_rows C hC IC' HC b n (fun k => M2 (ix2 k j)), hz2, zero_add] at e2
    rw [cand_rows C hC IC' HC b n (fun k => M1 (ix1 k)), hz1, zero_add] at e3
    simp only [hM2] at e2
    simp only [hM1] at e3
    rw [e1, hu0, e2, e3]
    rfl

/-- Which step a row of the steps' table is. -/
theorem step_div (b : Fin 16) (t : Fin 50) (h : (b.val * 50 + t.val) / 50 < 16) : (⟨(b.val * 50 + t.val) / 50, h⟩ : Fin 16) = b := Fin.ext (by show (b.val * 50 + t.val) / 50 = b.val; omega)
theorem step_mod (b : Fin 16) (t : Fin 50) (h : (b.val * 50 + t.val) % 50 < 50) : (⟨(b.val * 50 + t.val) % 50, h⟩ : Fin 50) = t := Fin.ext (by show (b.val * 50 + t.val) % 50 = t.val; omega)

/-- The views of all steps in one axis: which view a row of them is. -/
theorem views_row {α : Type} (x : (⟨4, ![16, 50, 64, 768]⟩ : Shape).Idx → α) (h : (⟨4, ![16, 50, 64, 768]⟩ : Shape).ShapeCasts (shape2 51200 768)) (b : Fin 16)
    (t : Fin 50) (v : Fin 64) (j : Fin 768) : shapeCast (shape2 51200 768) x h (ix2 (pos3 b t v) j) = x (ix4 b t v j) := by
  refine shapeCast_apply x h _ _ ?_
  rw [Shape.rowMajor_val_two, Shape.rowMajor_val_four]
  show ((b.val * 50 + t.val) * 64 + v.val) * 768 + j.val = (b.val * 3200 + (t.val * 64 + v.val)) * 768 + j.val
  omega

theorem views_pos {α : Type} (x : (⟨3, ![16, 50, 64]⟩ : Shape).Idx → α) (h : (⟨3, ![16, 50, 64]⟩ : Shape).ShapeCasts (shape1 51200)) (b : Fin 16)
    (t : Fin 50) (v : Fin 64) : shapeCast (shape1 51200) x h (ix1 (pos3 b t v)) = x (ix3 b t v) := by
  refine shapeCast_apply x h _ _ ?_
  rw [Shape.rowMajor_val_one, Shape.rowMajor_val_three]
  show (b.val * 50 + t.val) * 64 + v.val = b.val * 3200 + (t.val * 64 + v.val)
  omega

set_option maxHeartbeats 1000000 in
/-- The reference at an entry. -/
theorem ref_at (m : (ℓ : Loc nD τ sig) → Buf (Elt Ideal) ℓ) (c : Dev nD) (b : Fin 16) (n : Fin 64) (j : Fin 768) (k : Fin 100)
    (hk : m (c.tc.loc main_arg7) (ix2 b n) = BitVec.ofNat 32 k.val)
    (hP : ∀ b t, (m (c.tc.loc main_arg4) (ix2 b t)).toNat < 50) (hC : ∀ b t v, (m (c.tc.loc main_arg5) (ix3 b t v)).toNat < 64) (img : EReal)
    (hi : IsImg (m (c.tc.loc main_arg2)) (m (c.tc.loc main_arg3)) (m (c.tc.loc main_arg4)) (m (c.tc.loc main_arg5)) b n j img) :
    (Value.res_main_v110 m c (ix3 b n j) : EReal) = entry (m (c.tc.loc main_arg8)) (m (c.tc.loc main_arg10)) (m (c.tc.loc main_arg11)) b n j
      (m (c.tc.loc main_arg12)) (m (c.tc.loc main_arg13)) (m (c.tc.loc main_arg14)) (if n.val = 0 then 0 else img) k := by
  unfold Value.res_main_v110
  pointwise
  unfold entry
  refine congrArg₂ (· + ·) (congrArg₂ (· + ·) ?_ ?_) ?_
  · refine (column0 _ rfl rfl rfl rfl _ _ _ rfl (0 : EReal) (fun y => ?_) b n j).trans (if_congr Iff.rfl rfl ?_)
    · obtain ⟨a', j', rfl⟩ : ∃ (a' : Fin 16) (j' : Fin 768), y = ix2 a' j' := ⟨y 0, y 1, by funext x; match x with | ⟨0, _⟩ => rfl | ⟨1, _⟩ => rfl⟩
      pointwise
    · pointwise
      refine img_at _ _ _ _ b n j img hi hP hC _ (fun r => ?_) _ (fun y => ?_) _ _ (fun t => ?_) _ _ (fun b' t => ?_) rfl _ (fun r j => ?_) _ (fun r => ?_) _ _
        (fun b' t v => ?_) rfl _ (fun t v => ?_) _ (fun t v => ?_)
      · rfl
      · rfl
      · pointwise
        simp only [step_div, step_mod]
        rfl
      · pointwise
        exact vis_word b'.val b'.isLt _ (hP b' t) _
      · pointwise
      · pointwise
      · pointwise
        exact cand_word b'.val b'.isLt _ (hC b' t v) _
      · refine (views_row _ _ b t v j).trans ?_
        pointwise
        rfl
      · refine (views_pos _ _ b t v).trans ?_
        pointwise
        rfl
  · rw [hk, wrapped]
    refine (congrArg (fun z => Scalar.select z _ _) (?_ : _ = 1#1)).trans (take_row _ rfl rfl rfl rfl rfl rfl rfl _ _ b n j k ?_)
    · rw [Finset.univ_unique, Finset.fold_singleton]
      exact in_range k
    · pointwise
      rw [hk, wrapped]
      exact WordCmp.toInt_ofNat_of_lt (by omega)
  · rfl
end Cert.Agg
end
-- ==== Proof.Equation.lean ====
module
public import proofs.«01_k».proof.Defs
public import proofs.«01_k».proof.Proof.KAt
public import proofs.«01_k».proof.Proof.RefAt

/-! # The kernel's result is the reference's -/

@[expose] public section
set_option maxRecDepth 16384
noncomputable section
namespace Cert.Agg
open Idealize.ShloMosaic Idealize.ShloMosaic.TcCoe
open Cert.KernelIdeal (nD τ sig main_arg2 main_arg3 main_arg4 main_arg5 main_arg7 main_arg8 main_arg10 main_arg11 main_arg12 main_arg13 main_arg14)
open Cert.KernelIdeal.Gen (t0_0)

/-- A word that is at least 0 and less than `K`, both signed, is a number less than `K`. -/
theorem of_range (w : BitVec 32) (K : ℕ) (hK : K < 2 ^ 31)
    (h : IntOp.andi (IntOp.cmpi .sge w 0#32) (IntOp.cmpi .slt w (BitVec.ofNat 32 K)) = 1#1) : w.toNat < K := by
  rw [WordCmp.cmpi_sge_zero, WordCmp.cmpi_slt_eq, WordCmp.toInt_ofNat_of_lt (by omega)] at h
  by_cases h0 : w.toNat < 2 ^ (32 - 1)
  · rw [WordCmp.toInt_eq_toNat_of_lt_half h0] at h
    by_cases h1 : (w.toNat : Int) < K
    · exact_mod_cast h1
    · rw [decide_eq_false h1, decide_eq_true h0] at h
      exact absurd h (by decide)
  · rw [decide_eq_false h0] at h
    generalize decide (w.toInt < (K : Int)) = d at h
    cases d
    · exact absurd h (by decide)
    · exact absurd h (by decide)

/-- The result array at a node's row. -/
theorem result_row (D : Inputs Ideal) (b : Fin 16) (n : Fin 64) (j : Fin 768) :
    result D (ix2 (row b n) j) = rowAt D (anyC D) (anyC D) (anyN D) (5 * b.val + 4) (ix2 n j) := by
  have e1 : (row b n).val / 64 = b.val := by show (b.val * 64 + n.val) / 64 = b.val; omega
  have e2 : (⟨(row b n).val % 64, Nat.mod_lt _ (by omega)⟩ : Fin 64) = n := Fin.ext (by show (b.val * 64 + n.val) % 64 = n.val; omega)
  show rowAt D (anyC D) (anyC D) (anyN D) (5 * ((row b n).val / 64) + 4) (ix2 (⟨(row b n).val % 64, Nat.mod_lt _ (by omega)⟩ : Fin 64) j) = _
  rw [e1, e2]

/-- The kernel's result at an entry. -/
theorem kernel_at (m : (ℓ : Loc nD τ sig) → Buf (Elt Ideal) ℓ) (c : Dev nD) (b : Fin 16) (n : Fin 64) (j : Fin 768) (k : Fin 100)
    (hk : m (c.tc.loc main_arg7) (ix2 b n) = BitVec.ofNat 32 k.val) (img : EReal)
    (hi : IsImg (aX m c) (aL m c) (aP m c) (aC m c) b n j img) (h : Cert.KernelIdeal.S1024x768.ShapeCasts Cert.KernelIdeal.S16x64x768) :
    (shapeCast Cert.KernelIdeal.S16x64x768 (result (inputs m c t0_0)) h (ix3 b n j) : EReal)
      = entry (m (c.tc.loc main_arg8)) (m (c.tc.loc main_arg10)) (m (c.tc.loc main_arg11)) b n j
        (m (c.tc.loc main_arg12)) (m (c.tc.loc main_arg13)) (m (c.tc.loc main_arg14)) (if n.val = 0 then 0 else img) k := by
  have e : shapeCast Cert.KernelIdeal.S16x64x768 (result (inputs m c t0_0)) h (ix3 b n j) = result (inputs m c t0_0) (ix2 (row b n) j) := by
    refine shapeCast_apply _ h _ _ ?_
    rw [Shape.rowMajor_val_two, Shape.rowMajor_val_three]
    show (b.val * 64 + n.val) * 768 + j.val = (b.val * 64 + n.val) * 768 + j.val
    rfl
  rw [e, result_row]
  rcases hi with ⟨t, hl, rfl⟩ | ⟨hl, rfl⟩
  · exact result_last m c b n j k hk t hl _ _ _
  · exact result_never m c b n j k hk hl _ _ _

/-- The two results are equal, entry by entry. -/
theorem equation [Cert.Pre_ids_in_range.Facts] (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_ids_in_range m) (c : Dev nD)
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5))
    (e7 : m' ((c.tc : Thread Cert.ReferenceIdeal.nD Cert.ReferenceIdeal.τ).loc Cert.ReferenceIdeal.main_arg7) = m ((c.tc : Thread nD τ).loc main_arg7))
    (e8 : m' ((c.tc : Thread Cert.ReferenceIdeal.nD Cert.ReferenceIdeal.τ).loc Cert.ReferenceIdeal.main_arg8) = m ((c.tc : Thread nD τ).loc main_arg8))
    (e10 : m' ((c.tc : Thread Cert.ReferenceIdeal.nD Cert.ReferenceIdeal.τ).loc Cert.ReferenceIdeal.main_arg10) = m ((c.tc : Thread nD τ).loc main_arg10))
    (e11 : m' ((c.tc : Thread Cert.ReferenceIdeal.nD Cert.ReferenceIdeal.τ).loc Cert.ReferenceIdeal.main_arg11) = m ((c.tc : Thread nD τ).loc main_arg11))
    (e12 : m' ((c.tc : Thread Cert.ReferenceIdeal.nD Cert.ReferenceIdeal.τ).loc Cert.ReferenceIdeal.main_arg12) = m ((c.tc : Thread nD τ).loc main_arg12))
    (e13 : m' ((c.tc : Thread Cert.ReferenceIdeal.nD Cert.ReferenceIdeal.τ).loc Cert.ReferenceIdeal.main_arg13) = m ((c.tc : Thread nD τ).loc main_arg13))
    (e14 : m' ((c.tc : Thread Cert.ReferenceIdeal.nD Cert.ReferenceIdeal.τ).loc Cert.ReferenceIdeal.main_arg14) = m ((c.tc : Thread nD τ).loc main_arg14))
    (h : Cert.KernelIdeal.S1024x768.ShapeCasts Cert.KernelIdeal.S16x64x768) :
    Cert.ReferenceIdeal.Value.res_main_v110 m' c = shapeCast Cert.KernelIdeal.S16x64x768 (result (inputs m c t0_0)) h := by
  funext y
  obtain ⟨b, n, j, rfl⟩ : ∃ (b : Fin 16) (n : Fin 64) (j : Fin 768), y = ix3 b n j :=
    ⟨y 0, y 1, y 2, by funext x; match x with | ⟨0, _⟩ => rfl | ⟨1, _⟩ => rfl | ⟨2, _⟩ => rfl⟩
  have hP : ∀ b t, (aP m c (ix2 b t)).toNat < 50 := fun b t => of_range _ 50 (by decide) (congrFun (hpre c).1 (ix2 b t))
  have hC : ∀ b t v, (aC m c (ix3 b t v)).toNat < 64 := fun b t v => of_range _ 64 (by decide) (congrFun (hpre c).2.1 (ix3 b t v))
  have hS : (m ((c.tc : Thread nD τ).loc main_arg7) (ix2 b n) : BitVec 32).toNat < 100 := of_range _ 100 (by decide) (congrFun (hpre c).2.2 (ix2 b n))
  obtain ⟨k, hk⟩ : ∃ k : Fin 100, m ((c.tc : Thread nD τ).loc main_arg7) (ix2 b n) = BitVec.ofNat 32 k.val :=
    ⟨⟨_, hS⟩, BitVec.eq_of_toNat_eq (by rw [BitVec.toNat_ofNat, Nat.mod_eq_of_lt (by omega)])⟩
  obtain ⟨img, hi⟩ := exists_img (aX m c) (aL m c) (aP m c) (aC m c) b n j
  have hr := ref_at m' c b n j k (by rw [e7]; exact hk) (by rw [e4]; exact hP) (by rw [e5]; exact hC) img (by rw [e2, e3, e4, e5]; exact hi)
  rw [e8, e10, e11, e12, e13, e14] at hr
  exact hr.trans (kernel_at m c b n j k hk img hi h).symm
end Cert.Agg
end
-- ==== Proof.Transport.lean ====
module
public import proofs.«01_k».proof.Proof.Gen.KernelIdeal
public import proofs.«01_k».proof.Proof.Gen.Kernel
public import Idealize.ShloMosaic.Lib.Pipeline.Kit

/-! # The printed program and its ideal

The two printed programs are the same text, so each is the other at any float values. -/

@[expose] public section
set_option maxRecDepth 100000
noncomputable section
namespace Cert.Agg
open Idealize.ShloMosaic Idealize.ShloMosaic.TcCoe
attribute [local instance] Cert.Kernel.Gen.facts Cert.KernelIdeal.Gen.facts
variable {F : FTy → Type} [FloatOps F]
set_option maxHeartbeats 2000000 in
theorem body_eq : @Cert.Kernel.cc0__ring_kernel F _ _ = @Cert.KernelIdeal.cc0__ring_kernel F _ _ := rfl
set_option maxHeartbeats 2000000 in
theorem pcfgs_eq : (Cert.Kernel.pcfgs (F := F)) = Cert.KernelIdeal.pcfgs (F := F) := rfl
set_option maxHeartbeats 2000000 in
theorem defs₀_eq : (Cert.Kernel.defs₀ (F := F)) = Cert.KernelIdeal.defs₀ (F := F) := by
  unfold Cert.Kernel.defs₀ Cert.KernelIdeal.defs₀
  refine congrArg Defs.onTc ?_
  funext l x
  match l, x with
  | 0, (t, s) =>
    dsimp only
    rw [body_eq]
set_option maxHeartbeats 2000000 in
theorem main_eq : (Cert.Kernel.main (F := F)) = Cert.KernelIdeal.main (F := F) := rfl
theorem defs_eq : (Cert.Kernel.defs (F := F)) = Cert.KernelIdeal.defs (F := F) := by
  unfold Cert.Kernel.defs Cert.KernelIdeal.defs
  rw [show Cert.Kernel.defs₀ (F := F) = Cert.KernelIdeal.defs₀ from defs₀_eq]
  rfl
end Cert.Agg
end
-- ==== Proof.lean ====
module
public import proofs.«01_k».proof.Defs
public import proofs.«01_k».proof.Proof.Ends
public import proofs.«01_k».proof.Proof.Equation
public import proofs.«01_k».proof.Proof.Transport
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

/-! # The claims -/

@[expose] public section
set_option maxRecDepth 16384
noncomputable section
namespace Cert.Proof
open Idealize.ShloMosaic Idealize.ShloMosaic.TcCoe Idealize.SL.Sem
attribute [local instance] Cert.Kernel.Gen.facts Cert.KernelIdeal.Gen.facts Cert.ReferenceIdeal.Gen.facts

/-- The kernel over the ideal values ends with its arguments as they were and its counters at zero. -/
theorem frame_ideal : Cert.quiescent_KernelIdeal := fun m g _ =>
  (θ_run Cert.KernelIdeal.defs _ _).mono (fun _ h => ⟨fun c => (h.1 c).2, h.2⟩) (Cert.Agg.ends m g)

/-- The kernel over words: the same text, so the same run. -/
theorem frame_kernel : Cert.quiescent_Kernel := fun m g _ => by
  rw [Cert.Agg.defs_eq, Cert.Agg.main_eq]
  exact (θ_run Cert.KernelIdeal.defs _ _).mono (fun _ h => ⟨fun c => (h.1 c).2, h.2⟩) (Cert.Agg.ends (F := Bits) m g)

/-- The reference's arguments end as they were, and it has no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The operations of the predicate on the ids are well formed. -/
theorem ids_facts : Cert.Pre_ids_in_range.Facts := ⟨by decide, by decide, by decide⟩

/-- The kernel's result is the reference's, over the extended reals, when the ids are in their ranges. -/
theorem values : Cert.algebraic_KernelIdeal_ReferenceIdeal_pre_ids_in_range (hPre_ids_in_range := ids_facts) := fun m g m' g' hpre hargs => by
  haveI := ids_facts
  refine ⟨_, Cert.Agg.ends m g |> (θ_run Cert.KernelIdeal.defs _ _).mono (fun _ h => h.1), (θ_run Cert.ReferenceIdeal.defs _ _).mono (fun r h c => ⟨(h c).1.trans ?_, (h c).2⟩)
    (Cert.ReferenceIdeal.Value.run m' g')⟩
  obtain ⟨_, _, e2, e3, e4, e5, _, e7, e8, _, e10, e11, e12, e13, e14⟩ := hargs c
  exact Cert.Agg.equation m m' hpre c e2 e3 e4 e5 e7 e8 e10 e11 e12 e13 e14 _

theorem claim : Cert.Claim := ⟨Cert.Kernel.Gen.facts, Cert.KernelIdeal.Gen.facts, Cert.ReferenceIdeal.Gen.facts, ids_facts,
  frame_kernel, frame_ideal, fun m g _ => frame_ideal m g trivial, frame_reference, fun m g _ => frame_reference m g trivial, trivial, values⟩
end Cert.Proof
end
